-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "seventh" .f32 0x3E124925#32 ((7⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v527) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x128x128x128 : Shape := ⟨4, ![8, 128, 128, 128]⟩
abbrev S8x2x68 : Shape := ⟨3, ![8, 2, 68]⟩
abbrev S13x68 : Shape := ⟨2, ![13, 68]⟩
abbrev S12x1 : Shape := ⟨2, ![12, 1]⟩
abbrev S84x12 : Shape := ⟨2, ![84, 12]⟩
abbrev S84x1 : Shape := ⟨2, ![84, 1]⟩
abbrev S84x7 : Shape := ⟨2, ![84, 7]⟩
abbrev S48x128x7x7 : Shape := ⟨4, ![48, 128, 7, 7]⟩
abbrev S1x2x68 : Shape := ⟨3, ![1, 2, 68]⟩
abbrev S1x128x128x128 : Shape := ⟨4, ![1, 128, 128, 128]⟩
abbrev S6x128x7x7 : Shape := ⟨4, ![6, 128, 7, 7]⟩
abbrev S16384x84 : Shape := ⟨2, ![16384, 84]⟩
abbrev S128x84x84 : Shape := ⟨3, ![128, 84, 84]⟩
abbrev S2x68 : Shape := ⟨2, ![2, 68]⟩
abbrev S13x2 : Shape := ⟨2, ![13, 2]⟩
abbrev S1x1 : Shape := ⟨2, ![1, 1]⟩
abbrev S84x128 : Shape := ⟨2, ![84, 128]⟩
abbrev S128x128x128 : Shape := ⟨3, ![128, 128, 128]⟩
abbrev S16384x128 : Shape := ⟨2, ![16384, 128]⟩
abbrev S128x128x84 : Shape := ⟨3, ![128, 128, 84]⟩
abbrev S1x84x128 : Shape := ⟨3, ![1, 84, 128]⟩
abbrev S128x84x128 : Shape := ⟨3, ![128, 84, 128]⟩
abbrev S128x7x7 : Shape := ⟨3, ![128, 7, 7]⟩
abbrev S1x128x7x7 : Shape := ⟨4, ![1, 128, 7, 7]⟩

abbrev nBuf : Space → Nat
  | .hbm => 9
  | .vmem => 15
  | .smem => 0
  | _ => 0

abbrev bufTy : (tb : Table) → Fin (tcTables nBuf tb) → BufTy
  | .hbm, ⟨0, _⟩ => ⟨S8x128x128x128, .f32⟩
  | .hbm, ⟨1, _⟩ => ⟨S8x2x68, .f32⟩
  | .hbm, ⟨2, _⟩ => ⟨S13x68, .f32⟩
  | .hbm, ⟨3, _⟩ => ⟨S12x1, .f32⟩
  | .hbm, ⟨4, _⟩ => ⟨S84x12, .f32⟩
  | .hbm, ⟨5, _⟩ => ⟨S84x1, .f32⟩
  | .hbm, ⟨6, _⟩ => ⟨S84x7, .f32⟩
  | .hbm, ⟨7, _⟩ => ⟨S48x128x7x7, .f32⟩
  | .hbm, ⟨8, _⟩ => ⟨S48x128x7x7, .f32⟩
  | .local _ .vmem, ⟨0, _⟩ => ⟨S13x68, .f32⟩
  | .local _ .vmem, ⟨1, _⟩ => ⟨S12x1, .f32⟩
  | .local _ .vmem, ⟨2, _⟩ => ⟨S84x12, .f32⟩
  | .local _ .vmem, ⟨3, _⟩ => ⟨S84x1, .f32⟩
  | .local _ .vmem, ⟨4, _⟩ => ⟨S84x7, .f32⟩
  | .local _ .vmem, ⟨5, _⟩ => ⟨S1x2x68, .f32⟩
  | .local _ .vmem, ⟨6, _⟩ => ⟨S1x2x68, .f32⟩
  | .local _ .vmem, ⟨7, _⟩ => ⟨S1x128x128x128, .f32⟩
  | .local _ .vmem, ⟨8, _⟩ => ⟨S1x128x128x128, .f32⟩
  | .local _ .vmem, ⟨9, _⟩ => ⟨S6x128x7x7, .f32⟩
  | .local _ .vmem, ⟨10, _⟩ => ⟨S6x128x7x7, .f32⟩
  | .local _ .vmem, ⟨11, _⟩ => ⟨S6x128x7x7, .f32⟩
  | .local _ .vmem, ⟨12, _⟩ => ⟨S6x128x7x7, .f32⟩
  | .local _ .vmem, ⟨13, _⟩ => ⟨S16384x84, .bf16⟩
  | .local _ .vmem, ⟨14, _⟩ => ⟨S128x84x84, .bf16⟩
  | _, _ => ⟨S8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_cst_0 : Ref sig .tc := ⟨.hbm, 3, rfl⟩
abbrev main_call0_cst_1 : Ref sig .tc := ⟨.hbm, 4, rfl⟩
abbrev main_call0_cst_2 : Ref sig .tc := ⟨.hbm, 5, rfl⟩
abbrev main_call0_cst_3 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S13x68 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S12x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S84x12 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S84x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S84x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2x68 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S6x128x7x7 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S6x128x7x7 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "seventh" => some ((7⁻¹ : ℝ) : EReal)
  | _ => none
-- ==== ReferenceIdeal.lean ====
abbrev S8x128x128x128 : Shape := ⟨4, ![8, 128, 128, 128]⟩
abbrev S8x2x68 : Shape := ⟨3, ![8, 2, 68]⟩
abbrev S6 : Shape := ⟨1, ![6]⟩
abbrev S8x1x1 : Shape := ⟨3, ![8, 1, 1]⟩
abbrev S8 : Shape := ⟨1, ![8]⟩
abbrev S8x1 : Shape := ⟨2, ![8, 1]⟩
abbrev S1x6 : Shape := ⟨2, ![1, 6]⟩
abbrev S8x6 : Shape := ⟨2, ![8, 6]⟩
abbrev S_ : Shape := ⟨0, ![]⟩
abbrev S6x1 : Shape := ⟨2, ![6, 1]⟩
abbrev S6x2 : Shape := ⟨2, ![6, 2]⟩
abbrev S48 : Shape := ⟨1, ![48]⟩
abbrev S48x1x1 : Shape := ⟨3, ![48, 1, 1]⟩
abbrev S7 : Shape := ⟨1, ![7]⟩
abbrev S1x1x7 : Shape := ⟨3, ![1, 1, 7]⟩
abbrev S1x7x1 : Shape := ⟨3, ![1, 7, 1]⟩
abbrev S48x7x1 : Shape := ⟨3, ![48, 7, 1]⟩
abbrev S48x1x7 : Shape := ⟨3, ![48, 1, 7]⟩
abbrev S48x7x7 : Shape := ⟨3, ![48, 7, 7]⟩
abbrev S48x7x7x1x1 : Shape := ⟨5, ![48, 7, 7, 1, 1]⟩
abbrev S48x7x7x7x7 : Shape := ⟨5, ![48, 7, 7, 7, 7]⟩
abbrev S48x1x1x7x7 : Shape := ⟨5, ![48, 1, 1, 7, 7]⟩
abbrev S48x1x1x1x1 : Shape := ⟨5, ![48, 1, 1, 1, 1]⟩
abbrev S48x7x7x7x7x1 : Shape := ⟨6, ![48, 7, 7, 7, 7, 1]⟩
abbrev S48x7x7x7x7x3 : Shape := ⟨6, ![48, 7, 7, 7, 7, 3]⟩
abbrev S48x7x7x7x7x128 : Shape := ⟨6, ![48, 7, 7, 7, 7, 128]⟩
abbrev S48x7x7x128 : Shape := ⟨4, ![48, 7, 7, 128]⟩
abbrev S48x128x7x7 : Shape := ⟨4, ![48, 128, 7, 7]⟩

abbrev nBuf : Space → Nat
  | .hbm => 714
  | .vmem => 0
  | .smem => 0
  | _ => 0

abbrev hbmTy0_0 (i : Nat) : BufTy := match i % 128 with
  | 0 => ⟨S8x128x128x128, .f32⟩
  | 1 => ⟨S8x2x68, .f32⟩
  | 2 => ⟨S6, .f32⟩
  | 3 => ⟨S6, .i32⟩
  | 4 => ⟨S6, .f32⟩
  | 5 => ⟨S6, .i32⟩
  | 6 => ⟨S8x1x1, .f32⟩
  | 7 => ⟨S8, .f32⟩
  | 8 => ⟨S8x1x1, .f32⟩
  | 9 => ⟨S8, .f32⟩
  | 10 => ⟨S8, .f32⟩
  | 11 => ⟨S8, .f32⟩
  | 12 => ⟨S8x1, .f32⟩
  | 13 => ⟨S1x6, .f32⟩
  | 14 => ⟨S8x6, .f32⟩
  | 15 => ⟨S8x6, .f32⟩
  | 16 => ⟨S8x6, .f32⟩
  | 17 => ⟨S_, .i32⟩
  | 18 => ⟨S6, .i32⟩
  | 19 => ⟨S6, .i1⟩
  | 20 => ⟨S_, .i32⟩
  | 21 => ⟨S6, .i32⟩
  | 22 => ⟨S6, .i32⟩
  | 23 => ⟨S6, .i32⟩
  | 24 => ⟨S_, .i32⟩
  | 25 => ⟨S6, .i32⟩
  | 26 => ⟨S6, .i32⟩
  | 27 => ⟨S6x1, .i32⟩
  | 28 => ⟨S6x1, .i32⟩
  | 29 => ⟨S6x2, .i32⟩
  | 30 => ⟨S8x6, .f32⟩
  | 31 => ⟨S8x6, .f32⟩
  | 32 => ⟨S_, .i32⟩
  | 33 => ⟨S6, .i32⟩
  | 34 => ⟨S6, .i1⟩
  | 35 => ⟨S_, .i32⟩
  | 36 => ⟨S6, .i32⟩
  | 37 => ⟨S6, .i32⟩
  | 38 => ⟨S6, .i32⟩
  | 39 => ⟨S_, .i32⟩
  | 40 => ⟨S6, .i32⟩
  | 41 => ⟨S6, .i32⟩
  | 42 => ⟨S6x1, .i32⟩
  | 43 => ⟨S6x1, .i32⟩
  | 44 => ⟨S6x2, .i32⟩
  | 45 => ⟨S8x6, .f32⟩
  | 46 => ⟨S8x6, .f32⟩
  | 47 => ⟨S8x6, .f32⟩
  | 48 => ⟨S_, .i32⟩
  | 49 => ⟨S_, .i32⟩
  | 50 => ⟨S_, .f32⟩
  | 51 => ⟨S8x6, .f32⟩
  | 52 => ⟨S8x6, .f32⟩
  | 53 => ⟨S_, .f32⟩
  | 54 => ⟨S8x6, .f32⟩
  | 55 => ⟨S8x6, .f32⟩
  | 56 => ⟨S48, .f32⟩
  | 57 => ⟨S_, .i32⟩
  | 58 => ⟨S_, .i32⟩
  | 59 => ⟨S_, .f32⟩
  | 60 => ⟨S8x6, .f32⟩
  | 61 => ⟨S8x6, .f32⟩
  | 62 => ⟨S_, .f32⟩
  | 63 => ⟨S8x6, .f32⟩
  | 64 => ⟨S8x6, .f32⟩
  | 65 => ⟨S48, .f32⟩
  | 66 => ⟨S8, .i32⟩
  | 67 => ⟨S8x1, .i32⟩
  | 68 => ⟨S8x6, .i32⟩
  | 69 => ⟨S48, .i32⟩
  | 70 => ⟨S48, .f32⟩
  | 71 => ⟨S_, .f32⟩
  | 72 => ⟨S48, .f32⟩
  | 73 => ⟨S48, .f32⟩
  | 74 => ⟨S_, .f32⟩
  | 75 => ⟨S48, .f32⟩
  | 76 => ⟨S48, .f32⟩
  | 77 => ⟨S_, .f32⟩
  | 78 => ⟨S48, .f32⟩
  | 79 => ⟨S48, .f32⟩
  | 80 => ⟨S_, .f32⟩
  | 81 => ⟨S48, .f32⟩
  | 82 => ⟨S48, .f32⟩
  | 83 => ⟨S_, .f32⟩
  | 84 => ⟨S48, .f32⟩
  | 85 => ⟨S48, .f32⟩
  | 86 => ⟨S_, .f32⟩
  | 87 => ⟨S48, .f32⟩
  | 88 => ⟨S48, .f32⟩
  | 89 => ⟨S48, .i32⟩
  | 90 => ⟨S_, .f32⟩
  | 91 => ⟨S48, .f32⟩
  | 92 => ⟨S48, .f32⟩
  | 93 => ⟨S_, .f32⟩
  | 94 => ⟨S48, .f32⟩
  | 95 => ⟨S48, .f32⟩
  | 96 => ⟨S_, .f32⟩
  | 97 => ⟨S48, .f32⟩
  | 98 => ⟨S48, .f32⟩
  | 99 => ⟨S_, .f32⟩
  | 100 => ⟨S48, .f32⟩
  | 101 => ⟨S48, .f32⟩
  | 102 => ⟨S48, .f32⟩
  | 103 => ⟨S_, .f32⟩
  | 104 => ⟨S48, .f32⟩
  | 105 => ⟨S48, .f32⟩
  | 106 => ⟨S48, .f32⟩
  | 107 => ⟨S_, .f32⟩
  | 108 => ⟨S48, .f32⟩
  | 109 => ⟨S48, .f32⟩
  | 110 => ⟨S_, .f32⟩
  | 111 => ⟨S48, .f32⟩
  | 112 => ⟨S48, .f32⟩
  | 113 => ⟨S48x1x1, .f32⟩
  | 114 => ⟨S_, .f32⟩
  | 115 => ⟨S48, .f32⟩
  | 116 => ⟨S48, .f32⟩
  | 117 => ⟨S48x1x1, .f32⟩
  | 118 => ⟨S7, .f32⟩
  | 119 => ⟨S1x1x7, .f32⟩
  | 120 => ⟨S7, .f32⟩
  | 121 => ⟨S1x7x1, .f32⟩
  | 122 => ⟨S48x1x1, .f32⟩
  | 123 => ⟨S48x7x1, .f32⟩
  | 124 => ⟨S48x7x1, .f32⟩
  | 125 => ⟨S48x7x1, .f32⟩
  | 126 => ⟨S48x7x1, .f32⟩
  | 127 => ⟨S48x7x1, .f32⟩
  | _ => ⟨S8x128x128x128, .f32⟩

abbrev hbmTy0_1 (i : Nat) : BufTy := match i % 128 with
  | 0 => ⟨S_, .f32⟩
  | 1 => ⟨S1x1x7, .f32⟩
  | 2 => ⟨S1x1x7, .f32⟩
  | 3 => ⟨S48x1x7, .f32⟩
  | 4 => ⟨S48x1x7, .f32⟩
  | 5 => ⟨S48x1x7, .f32⟩
  | 6 => ⟨S_, .f32⟩
  | 7 => ⟨S48x1x7, .f32⟩
  | 8 => ⟨S48x1x7, .f32⟩
  | 9 => ⟨S48x7x7, .f32⟩
  | 10 => ⟨S48x7x7, .f32⟩
  | 11 => ⟨S48x7x7, .f32⟩
  | 12 => ⟨S48x1x1, .f32⟩
  | 13 => ⟨S48x7x1, .f32⟩
  | 14 => ⟨S48x7x1, .f32⟩
  | 15 => ⟨S48x7x1, .f32⟩
  | 16 => ⟨S48x7x1, .f32⟩
  | 17 => ⟨S48x7x1, .f32⟩
  | 18 => ⟨S_, .f32⟩
  | 19 => ⟨S1x1x7, .f32⟩
  | 20 => ⟨S1x1x7, .f32⟩
  | 21 => ⟨S48x1x7, .f32⟩
  | 22 => ⟨S48x1x7, .f32⟩
  | 23 => ⟨S48x1x7, .f32⟩
  | 24 => ⟨S_, .f32⟩
  | 25 => ⟨S48x1x7, .f32⟩
  | 26 => ⟨S48x1x7, .f32⟩
  | 27 => ⟨S48x7x7, .f32⟩
  | 28 => ⟨S48x7x7, .f32⟩
  | 29 => ⟨S48x7x7, .f32⟩
  | 30 => ⟨S48x7x7x1x1, .f32⟩
  | 31 => ⟨S48x7x7x7x7, .f32⟩
  | 32 => ⟨S48x1x1x7x7, .f32⟩
  | 33 => ⟨S48x7x7x7x7, .f32⟩
  | 34 => ⟨S48x1x1x1x1, .i32⟩
  | 35 => ⟨S48x7x7x7x7, .i32⟩
  | 36 => ⟨S_, .f32⟩
  | 37 => ⟨S48x7x7x7x7, .f32⟩
  | 38 => ⟨S48x7x7x7x7, .i1⟩
  | 39 => ⟨S_, .f32⟩
  | 40 => ⟨S48x7x7x7x7, .f32⟩
  | 41 => ⟨S48x7x7x7x7, .i1⟩
  | 42 => ⟨S48x7x7x7x7, .i1⟩
  | 43 => ⟨S_, .f32⟩
  | 44 => ⟨S48x7x7x7x7, .f32⟩
  | 45 => ⟨S48x7x7x7x7, .i1⟩
  | 46 => ⟨S48x7x7x7x7, .i1⟩
  | 47 => ⟨S_, .f32⟩
  | 48 => ⟨S48x7x7x7x7, .f32⟩
  | 49 => ⟨S48x7x7x7x7, .i1⟩
  | 50 => ⟨S48x7x7x7x7, .i1⟩
  | 51 => ⟨S_, .f32⟩
  | 52 => ⟨S_, .f32⟩
  | 53 => ⟨S_, .f32⟩
  | 54 => ⟨S48x7x7x7x7, .f32⟩
  | 55 => ⟨S48x7x7x7x7, .f32⟩
  | 56 => ⟨S_, .f32⟩
  | 57 => ⟨S48x7x7x7x7, .f32⟩
  | 58 => ⟨S48x7x7x7x7, .f32⟩
  | 59 => ⟨S_, .f32⟩
  | 60 => ⟨S_, .f32⟩
  | 61 => ⟨S_, .f32⟩
  | 62 => ⟨S48x7x7x7x7, .f32⟩
  | 63 => ⟨S48x7x7x7x7, .f32⟩
  | 64 => ⟨S_, .f32⟩
  | 65 => ⟨S48x7x7x7x7, .f32⟩
  | 66 => ⟨S48x7x7x7x7, .f32⟩
  | 67 => ⟨S48x7x7x7x7, .f32⟩
  | 68 => ⟨S48x7x7x7x7, .i32⟩
  | 69 => ⟨S48x7x7x7x7, .f32⟩
  | 70 => ⟨S48x7x7x7x7, .i32⟩
  | 71 => ⟨S_, .i32⟩
  | 72 => ⟨S48x7x7x7x7, .i32⟩
  | 73 => ⟨S48x7x7x7x7, .i32⟩
  | 74 => ⟨S_, .i32⟩
  | 75 => ⟨S48x7x7x7x7, .i32⟩
  | 76 => ⟨S48x7x7x7x7, .i32⟩
  | 77 => ⟨S_, .i32⟩
  | 78 => ⟨S48x7x7x7x7, .i32⟩
  | 79 => ⟨S48x7x7x7x7, .i32⟩
  | 80 => ⟨S_, .i32⟩
  | 81 => ⟨S48x7x7x7x7, .i32⟩
  | 82 => ⟨S48x7x7x7x7, .i32⟩
  | 83 => ⟨S_, .i32⟩
  | 84 => ⟨S48x7x7x7x7, .i32⟩
  | 85 => ⟨S48x7x7x7x7, .i32⟩
  | 86 => ⟨S_, .i32⟩
  | 87 => ⟨S48x7x7x7x7, .i32⟩
  | 88 => ⟨S48x7x7x7x7, .i32⟩
  | 89 => ⟨S48x7x7x7x7, .f32⟩
  | 90 => ⟨S48x7x7x7x7, .f32⟩
  | 91 => ⟨S48x7x7x7x7, .f32⟩
  | 92 => ⟨S48x7x7x7x7, .f32⟩
  | 93 => ⟨S_, .f32⟩
  | 94 => ⟨S48x7x7x7x7, .f32⟩
  | 95 => ⟨S48x7x7x7x7, .f32⟩
  | 96 => ⟨S_, .f32⟩
  | 97 => ⟨S48x7x7x7x7, .f32⟩
  | 98 => ⟨S48x7x7x7x7, .f32⟩
  | 99 => ⟨S_, .i32⟩
  | 100 => ⟨S48x7x7x7x7, .i32⟩
  | 101 => ⟨S48x7x7x7x7, .i1⟩
  | 102 => ⟨S_, .i32⟩
  | 103 => ⟨S48x7x7x7x7, .i32⟩
  | 104 => ⟨S48x7x7x7x7, .i32⟩
  | 105 => ⟨S48x7x7x7x7, .i32⟩
  | 106 => ⟨S_, .i32⟩
  | 107 => ⟨S48x7x7x7x7, .i32⟩
  | 108 => ⟨S48x7x7x7x7, .i1⟩
  | 109 => ⟨S_, .i32⟩
  | 110 => ⟨S48x7x7x7x7, .i32⟩
  | 111 => ⟨S48x7x7x7x7, .i32⟩
  | 112 => ⟨S48x7x7x7x7, .i32⟩
  | 113 => ⟨S_, .i32⟩
  | 114 => ⟨S48x7x7x7x7, .i32⟩
  | 115 => ⟨S48x7x7x7x7, .i1⟩
  | 116 => ⟨S_, .i32⟩
  | 117 => ⟨S48x7x7x7x7, .i32⟩
  | 118 => ⟨S48x7x7x7x7, .i32⟩
  | 119 => ⟨S48x7x7x7x7, .i32⟩
  | 120 => ⟨S48x7x7x7x7x1, .i32⟩
  | 121 => ⟨S48x7x7x7x7x1, .i32⟩
  | 122 => ⟨S48x7x7x7x7x1, .i32⟩
  | 123 => ⟨S48x7x7x7x7x3, .i32⟩
  | 124 => ⟨S48x7x7x7x7x128, .f32⟩
  | 125 => ⟨S_, .i32⟩
  | 126 => ⟨S48x7x7x7x7, .i32⟩
  | 127 => ⟨S48x7x7x7x7, .i1⟩
  | _ => ⟨S8x128x128x128, .f32⟩

abbrev hbmTy0_2 (i : Nat) : BufTy := match i % 128 with
  | 0 => ⟨S_, .i32⟩
  | 1 => ⟨S48x7x7x7x7, .i32⟩
  | 2 => ⟨S48x7x7x7x7, .i32⟩
  | 3 => ⟨S48x7x7x7x7, .i32⟩
  | 4 => ⟨S_, .i32⟩
  | 5 => ⟨S48x7x7x7x7, .i32⟩
  | 6 => ⟨S48x7x7x7x7, .i1⟩
  | 7 => ⟨S_, .i32⟩
  | 8 => ⟨S48x7x7x7x7, .i32⟩
  | 9 => ⟨S48x7x7x7x7, .i32⟩
  | 10 => ⟨S48x7x7x7x7, .i32⟩
  | 11 => ⟨S_, .i32⟩
  | 12 => ⟨S48x7x7x7x7, .i32⟩
  | 13 => ⟨S48x7x7x7x7, .i1⟩
  | 14 => ⟨S_, .i32⟩
  | 15 => ⟨S48x7x7x7x7, .i32⟩
  | 16 => ⟨S48x7x7x7x7, .i32⟩
  | 17 => ⟨S48x7x7x7x7, .i32⟩
  | 18 => ⟨S48x7x7x7x7x1, .i32⟩
  | 19 => ⟨S48x7x7x7x7x1, .i32⟩
  | 20 => ⟨S48x7x7x7x7x1, .i32⟩
  | 21 => ⟨S48x7x7x7x7x3, .i32⟩
  | 22 => ⟨S48x7x7x7x7x128, .f32⟩
  | 23 => ⟨S_, .i32⟩
  | 24 => ⟨S48x7x7x7x7, .i32⟩
  | 25 => ⟨S48x7x7x7x7, .i1⟩
  | 26 => ⟨S_, .i32⟩
  | 27 => ⟨S48x7x7x7x7, .i32⟩
  | 28 => ⟨S48x7x7x7x7, .i32⟩
  | 29 => ⟨S48x7x7x7x7, .i32⟩
  | 30 => ⟨S_, .i32⟩
  | 31 => ⟨S48x7x7x7x7, .i32⟩
  | 32 => ⟨S48x7x7x7x7, .i1⟩
  | 33 => ⟨S_, .i32⟩
  | 34 => ⟨S48x7x7x7x7, .i32⟩
  | 35 => ⟨S48x7x7x7x7, .i32⟩
  | 36 => ⟨S48x7x7x7x7, .i32⟩
  | 37 => ⟨S_, .i32⟩
  | 38 => ⟨S48x7x7x7x7, .i32⟩
  | 39 => ⟨S48x7x7x7x7, .i1⟩
  | 40 => ⟨S_, .i32⟩
  | 41 => ⟨S48x7x7x7x7, .i32⟩
  | 42 => ⟨S48x7x7x7x7, .i32⟩
  | 43 => ⟨S48x7x7x7x7, .i32⟩
  | 44 => ⟨S48x7x7x7x7x1, .i32⟩
  | 45 => ⟨S48x7x7x7x7x1, .i32⟩
  | 46 => ⟨S48x7x7x7x7x1, .i32⟩
  | 47 => ⟨S48x7x7x7x7x3, .i32⟩
  | 48 => ⟨S48x7x7x7x7x128, .f32⟩
  | 49 => ⟨S_, .i32⟩
  | 50 => ⟨S48x7x7x7x7, .i32⟩
  | 51 => ⟨S48x7x7x7x7, .i1⟩
  | 52 => ⟨S_, .i32⟩
  | 53 => ⟨S48x7x7x7x7, .i32⟩
  | 54 => ⟨S48x7x7x7x7, .i32⟩
  | 55 => ⟨S48x7x7x7x7, .i32⟩
  | 56 => ⟨S_, .i32⟩
  | 57 => ⟨S48x7x7x7x7, .i32⟩
  | 58 => ⟨S48x7x7x7x7, .i1⟩
  | 59 => ⟨S_, .i32⟩
  | 60 => ⟨S48x7x7x7x7, .i32⟩
  | 61 => ⟨S48x7x7x7x7, .i32⟩
  | 62 => ⟨S48x7x7x7x7, .i32⟩
  | 63 => ⟨S_, .i32⟩
  | 64 => ⟨S48x7x7x7x7, .i32⟩
  | 65 => ⟨S48x7x7x7x7, .i1⟩
  | 66 => ⟨S_, .i32⟩
  | 67 => ⟨S48x7x7x7x7, .i32⟩
  | 68 => ⟨S48x7x7x7x7, .i32⟩
  | 69 => ⟨S48x7x7x7x7, .i32⟩
  | 70 => ⟨S48x7x7x7x7x1, .i32⟩
  | 71 => ⟨S48x7x7x7x7x1, .i32⟩
  | 72 => ⟨S48x7x7x7x7x1, .i32⟩
  | 73 => ⟨S48x7x7x7x7x3, .i32⟩
  | 74 => ⟨S48x7x7x7x7x128, .f32⟩
  | 75 => ⟨S48x7x7x7x7, .f32⟩
  | 76 => ⟨S48x7x7x7x7x1, .f32⟩
  | 77 => ⟨S48x7x7x7x7x128, .f32⟩
  | 78 => ⟨S48x7x7x7x7x128, .f32⟩
  | 79 => ⟨S48x7x7x7x7, .f32⟩
  | 80 => ⟨S48x7x7x7x7x1, .f32⟩
  | 81 => ⟨S48x7x7x7x7x128, .f32⟩
  | 82 => ⟨S48x7x7x7x7x128, .f32⟩
  | 83 => ⟨S48x7x7x7x7x128, .f32⟩
  | 84 => ⟨S48x7x7x7x7, .f32⟩
  | 85 => ⟨S48x7x7x7x7x1, .f32⟩
  | 86 => ⟨S48x7x7x7x7x128, .f32⟩
  | 87 => ⟨S48x7x7x7x7x128, .f32⟩
  | 88 => ⟨S48x7x7x7x7x128, .f32⟩
  | 89 => ⟨S48x7x7x7x7, .f32⟩
  | 90 => ⟨S48x7x7x7x7x1, .f32⟩
  | 91 => ⟨S48x7x7x7x7x128, .f32⟩
  | 92 => ⟨S48x7x7x7x7x128, .f32⟩
  | 93 => ⟨S48x7x7x7x7x128, .f32⟩
  | 94 => ⟨S48x7x7x7x7, .f32⟩
  | 95 => ⟨S48x7x7x7x7x1, .f32⟩
  | 96 => ⟨S48x7x7x7x7x128, .f32⟩
  | 97 => ⟨S48x7x7x7x7x128, .f32⟩
  | 98 => ⟨S_, .f32⟩
  | 99 => ⟨S48x7x7x128, .f32⟩
  | 100 => ⟨S_, .f32⟩
  | 101 => ⟨S48x7x7x128, .f32⟩
  | 102 => ⟨S48x7x7x128, .f32⟩
  | 103 => ⟨S48x128x7x7, .f32⟩
  | 104 => ⟨S8x1x1, .f32⟩
  | 105 => ⟨S8, .f32⟩
  | 106 => ⟨S8x1x1, .f32⟩
  | 107 => ⟨S8, .f32⟩
  | 108 => ⟨S8, .f32⟩
  | 109 => ⟨S8, .f32⟩
  | 110 => ⟨S8x1, .f32⟩
  | 111 => ⟨S1x6, .f32⟩
  | 112 => ⟨S8x6, .f32⟩
  | 113 => ⟨S8x6, .f32⟩
  | 114 => ⟨S8x6, .f32⟩
  | 115 => ⟨S_, .i32⟩
  | 116 => ⟨S6, .i32⟩
  | 117 => ⟨S6, .i1⟩
  | 118 => ⟨S_, .i32⟩
  | 119 => ⟨S6, .i32⟩
  | 120 => ⟨S6, .i32⟩
  | 121 => ⟨S6, .i32⟩
  | 122 => ⟨S_, .i32⟩
  | 123 => ⟨S6, .i32⟩
  | 124 => ⟨S6, .i32⟩
  | 125 => ⟨S6x1, .i32⟩
  | 126 => ⟨S6x1, .i32⟩
  | 127 => ⟨S6x2, .i32⟩
  | _ => ⟨S8x128x128x128, .f32⟩

abbrev hbmTy0_3 (i : Nat) : BufTy := match i % 128 with
  | 0 => ⟨S8x6, .f32⟩
  | 1 => ⟨S8x6, .f32⟩
  | 2 => ⟨S_, .i32⟩
  | 3 => ⟨S6, .i32⟩
  | 4 => ⟨S6, .i1⟩
  | 5 => ⟨S_, .i32⟩
  | 6 => ⟨S6, .i32⟩
  | 7 => ⟨S6, .i32⟩
  | 8 => ⟨S6, .i32⟩
  | 9 => ⟨S_, .i32⟩
  | 10 => ⟨S6, .i32⟩
  | 11 => ⟨S6, .i32⟩
  | 12 => ⟨S6x1, .i32⟩
  | 13 => ⟨S6x1, .i32⟩
  | 14 => ⟨S6x2, .i32⟩
  | 15 => ⟨S8x6, .f32⟩
  | 16 => ⟨S8x6, .f32⟩
  | 17 => ⟨S8x6, .f32⟩
  | 18 => ⟨S_, .i32⟩
  | 19 => ⟨S_, .i32⟩
  | 20 => ⟨S_, .f32⟩
  | 21 => ⟨S8x6, .f32⟩
  | 22 => ⟨S8x6, .f32⟩
  | 23 => ⟨S_, .f32⟩
  | 24 => ⟨S8x6, .f32⟩
  | 25 => ⟨S8x6, .f32⟩
  | 26 => ⟨S48, .f32⟩
  | 27 => ⟨S_, .i32⟩
  | 28 => ⟨S_, .i32⟩
  | 29 => ⟨S_, .f32⟩
  | 30 => ⟨S8x6, .f32⟩
  | 31 => ⟨S8x6, .f32⟩
  | 32 => ⟨S_, .f32⟩
  | 33 => ⟨S8x6, .f32⟩
  | 34 => ⟨S8x6, .f32⟩
  | 35 => ⟨S48, .f32⟩
  | 36 => ⟨S8, .i32⟩
  | 37 => ⟨S8x1, .i32⟩
  | 38 => ⟨S8x6, .i32⟩
  | 39 => ⟨S48, .i32⟩
  | 40 => ⟨S48, .f32⟩
  | 41 => ⟨S_, .f32⟩
  | 42 => ⟨S48, .f32⟩
  | 43 => ⟨S48, .f32⟩
  | 44 => ⟨S_, .f32⟩
  | 45 => ⟨S48, .f32⟩
  | 46 => ⟨S48, .f32⟩
  | 47 => ⟨S_, .f32⟩
  | 48 => ⟨S48, .f32⟩
  | 49 => ⟨S48, .f32⟩
  | 50 => ⟨S_, .f32⟩
  | 51 => ⟨S48, .f32⟩
  | 52 => ⟨S48, .f32⟩
  | 53 => ⟨S_, .f32⟩
  | 54 => ⟨S48, .f32⟩
  | 55 => ⟨S48, .f32⟩
  | 56 => ⟨S_, .f32⟩
  | 57 => ⟨S48, .f32⟩
  | 58 => ⟨S48, .f32⟩
  | 59 => ⟨S48, .i32⟩
  | 60 => ⟨S_, .f32⟩
  | 61 => ⟨S48, .f32⟩
  | 62 => ⟨S48, .f32⟩
  | 63 => ⟨S_, .f32⟩
  | 64 => ⟨S48, .f32⟩
  | 65 => ⟨S48, .f32⟩
  | 66 => ⟨S_, .f32⟩
  | 67 => ⟨S48, .f32⟩
  | 68 => ⟨S48, .f32⟩
  | 69 => ⟨S_, .f32⟩
  | 70 => ⟨S48, .f32⟩
  | 71 => ⟨S48, .f32⟩
  | 72 => ⟨S48, .f32⟩
  | 73 => ⟨S_, .f32⟩
  | 74 => ⟨S48, .f32⟩
  | 75 => ⟨S48, .f32⟩
  | 76 => ⟨S48, .f32⟩
  | 77 => ⟨S_, .f32⟩
  | 78 => ⟨S48, .f32⟩
  | 79 => ⟨S48, .f32⟩
  | 80 => ⟨S_, .f32⟩
  | 81 => ⟨S48, .f32⟩
  | 82 => ⟨S48, .f32⟩
  | 83 => ⟨S48x1x1, .f32⟩
  | 84 => ⟨S_, .f32⟩
  | 85 => ⟨S48, .f32⟩
  | 86 => ⟨S48, .f32⟩
  | 87 => ⟨S48x1x1, .f32⟩
  | 88 => ⟨S7, .f32⟩
  | 89 => ⟨S1x1x7, .f32⟩
  | 90 => ⟨S7, .f32⟩
  | 91 => ⟨S1x7x1, .f32⟩
  | 92 => ⟨S48x1x1, .f32⟩
  | 93 => ⟨S48x7x1, .f32⟩
  | 94 => ⟨S48x7x1, .f32⟩
  | 95 => ⟨S48x7x1, .f32⟩
  | 96 => ⟨S48x7x1, .f32⟩
  | 97 => ⟨S48x7x1, .f32⟩
  | 98 => ⟨S_, .f32⟩
  | 99 => ⟨S1x1x7, .f32⟩
  | 100 => ⟨S1x1x7, .f32⟩
  | 101 => ⟨S48x1x7, .f32⟩
  | 102 => ⟨S48x1x7, .f32⟩
  | 103 => ⟨S48x1x7, .f32⟩
  | 104 => ⟨S_, .f32⟩
  | 105 => ⟨S48x1x7, .f32⟩
  | 106 => ⟨S48x1x7, .f32⟩
  | 107 => ⟨S48x7x7, .f32⟩
  | 108 => ⟨S48x7x7, .f32⟩
  | 109 => ⟨S48x7x7, .f32⟩
  | 110 => ⟨S48x1x1, .f32⟩
  | 111 => ⟨S48x7x1, .f32⟩
  | 112 => ⟨S48x7x1, .f32⟩
  | 113 => ⟨S48x7x1, .f32⟩
  | 114 => ⟨S48x7x1, .f32⟩
  | 115 => ⟨S48x7x1, .f32⟩
  | 116 => ⟨S_, .f32⟩
  | 117 => ⟨S1x1x7, .f32⟩
  | 118 => ⟨S1x1x7, .f32⟩
  | 119 => ⟨S48x1x7, .f32⟩
  | 120 => ⟨S48x1x7, .f32⟩
  | 121 => ⟨S48x1x7, .f32⟩
  | 122 => ⟨S_, .f32⟩
  | 123 => ⟨S48x1x7, .f32⟩
  | 124 => ⟨S48x1x7, .f32⟩
  | 125 => ⟨S48x7x7, .f32⟩
  | 126 => ⟨S48x7x7, .f32⟩
  | 127 => ⟨S48x7x7, .f32⟩
  | _ => ⟨S8x128x128x128, .f32⟩

abbrev hbmTy0_4 (i : Nat) : BufTy := match i % 128 with
  | 0 => ⟨S48x7x7x1x1, .f32⟩
  | 1 => ⟨S48x7x7x7x7, .f32⟩
  | 2 => ⟨S48x1x1x7x7, .f32⟩
  | 3 => ⟨S48x7x7x7x7, .f32⟩
  | 4 => ⟨S48x1x1x1x1, .i32⟩
  | 5 => ⟨S48x7x7x7x7, .i32⟩
  | 6 => ⟨S_, .f32⟩
  | 7 => ⟨S48x7x7x7x7, .f32⟩
  | 8 => ⟨S48x7x7x7x7, .i1⟩
  | 9 => ⟨S_, .f32⟩
  | 10 => ⟨S48x7x7x7x7, .f32⟩
  | 11 => ⟨S48x7x7x7x7, .i1⟩
  | 12 => ⟨S48x7x7x7x7, .i1⟩
  | 13 => ⟨S_, .f32⟩
  | 14 => ⟨S48x7x7x7x7, .f32⟩
  | 15 => ⟨S48x7x7x7x7, .i1⟩
  | 16 => ⟨S48x7x7x7x7, .i1⟩
  | 17 => ⟨S_, .f32⟩
  | 18 => ⟨S48x7x7x7x7, .f32⟩
  | 19 => ⟨S48x7x7x7x7, .i1⟩
  | 20 => ⟨S48x7x7x7x7, .i1⟩
  | 21 => ⟨S_, .f32⟩
  | 22 => ⟨S_, .f32⟩
  | 23 => ⟨S_, .f32⟩
  | 24 => ⟨S48x7x7x7x7, .f32⟩
  | 25 => ⟨S48x7x7x7x7, .f32⟩
  | 26 => ⟨S_, .f32⟩
  | 27 => ⟨S48x7x7x7x7, .f32⟩
  | 28 => ⟨S48x7x7x7x7, .f32⟩
  | 29 => ⟨S_, .f32⟩
  | 30 => ⟨S_, .f32⟩
  | 31 => ⟨S_, .f32⟩
  | 32 => ⟨S48x7x7x7x7, .f32⟩
  | 33 => ⟨S48x7x7x7x7, .f32⟩
  | 34 => ⟨S_, .f32⟩
  | 35 => ⟨S48x7x7x7x7, .f32⟩
  | 36 => ⟨S48x7x7x7x7, .f32⟩
  | 37 => ⟨S48x7x7x7x7, .f32⟩
  | 38 => ⟨S48x7x7x7x7, .i32⟩
  | 39 => ⟨S48x7x7x7x7, .f32⟩
  | 40 => ⟨S48x7x7x7x7, .i32⟩
  | 41 => ⟨S_, .i32⟩
  | 42 => ⟨S48x7x7x7x7, .i32⟩
  | 43 => ⟨S48x7x7x7x7, .i32⟩
  | 44 => ⟨S_, .i32⟩
  | 45 => ⟨S48x7x7x7x7, .i32⟩
  | 46 => ⟨S48x7x7x7x7, .i32⟩
  | 47 => ⟨S_, .i32⟩
  | 48 => ⟨S48x7x7x7x7, .i32⟩
  | 49 => ⟨S48x7x7x7x7, .i32⟩
  | 50 => ⟨S_, .i32⟩
  | 51 => ⟨S48x7x7x7x7, .i32⟩
  | 52 => ⟨S48x7x7x7x7, .i32⟩
  | 53 => ⟨S_, .i32⟩
  | 54 => ⟨S48x7x7x7x7, .i32⟩
  | 55 => ⟨S48x7x7x7x7, .i32⟩
  | 56 => ⟨S_, .i32⟩
  | 57 => ⟨S48x7x7x7x7, .i32⟩
  | 58 => ⟨S48x7x7x7x7, .i32⟩
  | 59 => ⟨S48x7x7x7x7, .f32⟩
  | 60 => ⟨S48x7x7x7x7, .f32⟩
  | 61 => ⟨S48x7x7x7x7, .f32⟩
  | 62 => ⟨S48x7x7x7x7, .f32⟩
  | 63 => ⟨S_, .f32⟩
  | 64 => ⟨S48x7x7x7x7, .f32⟩
  | 65 => ⟨S48x7x7x7x7, .f32⟩
  | 66 => ⟨S_, .f32⟩
  | 67 => ⟨S48x7x7x7x7, .f32⟩
  | 68 => ⟨S48x7x7x7x7, .f32⟩
  | 69 => ⟨S_, .i32⟩
  | 70 => ⟨S48x7x7x7x7, .i32⟩
  | 71 => ⟨S48x7x7x7x7, .i1⟩
  | 72 => ⟨S_, .i32⟩
  | 73 => ⟨S48x7x7x7x7, .i32⟩
  | 74 => ⟨S48x7x7x7x7, .i32⟩
  | 75 => ⟨S48x7x7x7x7, .i32⟩
  | 76 => ⟨S_, .i32⟩
  | 77 => ⟨S48x7x7x7x7, .i32⟩
  | 78 => ⟨S48x7x7x7x7, .i1⟩
  | 79 => ⟨S_, .i32⟩
  | 80 => ⟨S48x7x7x7x7, .i32⟩
  | 81 => ⟨S48x7x7x7x7, .i32⟩
  | 82 => ⟨S48x7x7x7x7, .i32⟩
  | 83 => ⟨S_, .i32⟩
  | 84 => ⟨S48x7x7x7x7, .i32⟩
  | 85 => ⟨S48x7x7x7x7, .i1⟩
  | 86 => ⟨S_, .i32⟩
  | 87 => ⟨S48x7x7x7x7, .i32⟩
  | 88 => ⟨S48x7x7x7x7, .i32⟩
  | 89 => ⟨S48x7x7x7x7, .i32⟩
  | 90 => ⟨S48x7x7x7x7x1, .i32⟩
  | 91 => ⟨S48x7x7x7x7x1, .i32⟩
  | 92 => ⟨S48x7x7x7x7x1, .i32⟩
  | 93 => ⟨S48x7x7x7x7x3, .i32⟩
  | 94 => ⟨S48x7x7x7x7x128, .f32⟩
  | 95 => ⟨S_, .i32⟩
  | 96 => ⟨S48x7x7x7x7, .i32⟩
  | 97 => ⟨S48x7x7x7x7, .i1⟩
  | 98 => ⟨S_, .i32⟩
  | 99 => ⟨S48x7x7x7x7, .i32⟩
  | 100 => ⟨S48x7x7x7x7, .i32⟩
  | 101 => ⟨S48x7x7x7x7, .i32⟩
  | 102 => ⟨S_, .i32⟩
  | 103 => ⟨S48x7x7x7x7, .i32⟩
  | 104 => ⟨S48x7x7x7x7, .i1⟩
  | 105 => ⟨S_, .i32⟩
  | 106 => ⟨S48x7x7x7x7, .i32⟩
  | 107 => ⟨S48x7x7x7x7, .i32⟩
  | 108 => ⟨S48x7x7x7x7, .i32⟩
  | 109 => ⟨S_, .i32⟩
  | 110 => ⟨S48x7x7x7x7, .i32⟩
  | 111 => ⟨S48x7x7x7x7, .i1⟩
  | 112 => ⟨S_, .i32⟩
  | 113 => ⟨S48x7x7x7x7, .i32⟩
  | 114 => ⟨S48x7x7x7x7, .i32⟩
  | 115 => ⟨S48x7x7x7x7, .i32⟩
  | 116 => ⟨S48x7x7x7x7x1, .i32⟩
  | 117 => ⟨S48x7x7x7x7x1, .i32⟩
  | 118 => ⟨S48x7x7x7x7x1, .i32⟩
  | 119 => ⟨S48x7x7x7x7x3, .i32⟩
  | 120 => ⟨S48x7x7x7x7x128, .f32⟩
  | 121 => ⟨S_, .i32⟩
  | 122 => ⟨S48x7x7x7x7, .i32⟩
  | 123 => ⟨S48x7x7x7x7, .i1⟩
  | 124 => ⟨S_, .i32⟩
  | 125 => ⟨S48x7x7x7x7, .i32⟩
  | 126 => ⟨S48x7x7x7x7, .i32⟩
  | 127 => ⟨S48x7x7x7x7, .i32⟩
  | _ => ⟨S8x128x128x128, .f32⟩

abbrev hbmTy0_5 (i : Nat) : BufTy := match i % 128 with
  | 0 => ⟨S_, .i32⟩
  | 1 => ⟨S48x7x7x7x7, .i32⟩
  | 2 => ⟨S48x7x7x7x7, .i1⟩
  | 3 => ⟨S_, .i32⟩
  | 4 => ⟨S48x7x7x7x7, .i32⟩
  | 5 => ⟨S48x7x7x7x7, .i32⟩
  | 6 => ⟨S48x7x7x7x7, .i32⟩
  | 7 => ⟨S_, .i32⟩
  | 8 => ⟨S48x7x7x7x7, .i32⟩
  | 9 => ⟨S48x7x7x7x7, .i1⟩
  | 10 => ⟨S_, .i32⟩
  | 11 => ⟨S48x7x7x7x7, .i32⟩
  | 12 => ⟨S48x7x7x7x7, .i32⟩
  | 13 => ⟨S48x7x7x7x7, .i32⟩
  | 14 => ⟨S48x7x7x7x7x1, .i32⟩
  | 15 => ⟨S48x7x7x7x7x1, .i32⟩
  | 16 => ⟨S48x7x7x7x7x1, .i32⟩
  | 17 => ⟨S48x7x7x7x7x3, .i32⟩
  | 18 => ⟨S48x7x7x7x7x128, .f32⟩
  | 19 => ⟨S_, .i32⟩
  | 20 => ⟨S48x7x7x7x7, .i32⟩
  | 21 => ⟨S48x7x7x7x7, .i1⟩
  | 22 => ⟨S_, .i32⟩
  | 23 => ⟨S48x7x7x7x7, .i32⟩
  | 24 => ⟨S48x7x7x7x7, .i32⟩
  | 25 => ⟨S48x7x7x7x7, .i32⟩
  | 26 => ⟨S_, .i32⟩
  | 27 => ⟨S48x7x7x7x7, .i32⟩
  | 28 => ⟨S48x7x7x7x7, .i1⟩
  | 29 => ⟨S_, .i32⟩
  | 30 => ⟨S48x7x7x7x7, .i32⟩
  | 31 => ⟨S48x7x7x7x7, .i32⟩
  | 32 => ⟨S48x7x7x7x7, .i32⟩
  | 33 => ⟨S_, .i32⟩
  | 34 => ⟨S48x7x7x7x7, .i32⟩
  | 35 => ⟨S48x7x7x7x7, .i1⟩
  | 36 => ⟨S_, .i32⟩
  | 37 => ⟨S48x7x7x7x7, .i32⟩
  | 38 => ⟨S48x7x7x7x7, .i32⟩
  | 39 => ⟨S48x7x7x7x7, .i32⟩
  | 40 => ⟨S48x7x7x7x7x1, .i32⟩
  | 41 => ⟨S48x7x7x7x7x1, .i32⟩
  | 42 => ⟨S48x7x7x7x7x1, .i32⟩
  | 43 => ⟨S48x7x7x7x7x3, .i32⟩
  | 44 => ⟨S48x7x7x7x7x128, .f32⟩
  | 45 => ⟨S48x7x7x7x7, .f32⟩
  | 46 => ⟨S48x7x7x7x7x1, .f32⟩
  | 47 => ⟨S48x7x7x7x7x128, .f32⟩
  | 48 => ⟨S48x7x7x7x7x128, .f32⟩
  | 49 => ⟨S48x7x7x7x7, .f32⟩
  | 50 => ⟨S48x7x7x7x7x1, .f32⟩
  | 51 => ⟨S48x7x7x7x7x128, .f32⟩
  | 52 => ⟨S48x7x7x7x7x128, .f32⟩
  | 53 => ⟨S48x7x7x7x7x128, .f32⟩
  | 54 => ⟨S48x7x7x7x7, .f32⟩
  | 55 => ⟨S48x7x7x7x7x1, .f32⟩
  | 56 => ⟨S48x7x7x7x7x128, .f32⟩
  | 57 => ⟨S48x7x7x7x7x128, .f32⟩
  | 58 => ⟨S48x7x7x7x7x128, .f32⟩
  | 59 => ⟨S48x7x7x7x7, .f32⟩
  | 60 => ⟨S48x7x7x7x7x1, .f32⟩
  | 61 => ⟨S48x7x7x7x7x128, .f32⟩
  | 62 => ⟨S48x7x7x7x7x128, .f32⟩
  | 63 => ⟨S48x7x7x7x7x128, .f32⟩
  | 64 => ⟨S48x7x7x7x7, .f32⟩
  | 65 => ⟨S48x7x7x7x7x1, .f32⟩
  | 66 => ⟨S48x7x7x7x7x128, .f32⟩
  | 67 => ⟨S48x7x7x7x7x128, .f32⟩
  | 68 => ⟨S_, .f32⟩
  | 69 => ⟨S48x7x7x128, .f32⟩
  | 70 => ⟨S_, .f32⟩
  | 71 => ⟨S48x7x7x128, .f32⟩
  | 72 => ⟨S48x7x7x128, .f32⟩
  | 73 => ⟨S48x128x7x7, .f32⟩
  | _ => ⟨S8x128x128x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x128x128x128, .f32⟩

abbrev bufTy : (tb : Table) → Fin (tcTables nBuf tb) → BufTy
  | .hbm, ⟨i, _⟩ => hbmTy i
  | _, _ => ⟨S8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_c : Ref sig .tc := ⟨.hbm, 3, rfl⟩
abbrev main_cst_0 : Ref sig .tc := ⟨.hbm, 4, rfl⟩
abbrev main_c_1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_5 : Ref sig .tc := ⟨.hbm, 32, rfl⟩
abbrev main_v23 : Ref sig .tc := ⟨.hbm, 33, rfl⟩
abbrev main_v24 : Ref sig .tc := ⟨.hbm, 34, rfl⟩
abbrev main_c_6 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_7 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_8 : Ref sig .tc := ⟨.hbm, 48, rfl⟩
abbrev main_c_9 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_v36 : Ref sig .tc := ⟨.hbm, 55, rfl⟩
abbrev main_v37 : Ref sig .tc := ⟨.hbm, 56, rfl⟩
abbrev main_c_10 : Ref sig .tc := ⟨.hbm, 57, rfl⟩
abbrev main_c_11 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_12 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_cst_14 : Ref sig .tc := ⟨.hbm, 77, rfl⟩
abbrev main_v49 : Ref sig .tc := ⟨.hbm, 78, rfl⟩
abbrev main_v50 : Ref sig .tc := ⟨.hbm, 79, rfl⟩
abbrev main_cst_15 : Ref sig .tc := ⟨.hbm, 80, rfl⟩
abbrev main_v51 : Ref sig .tc := ⟨.hbm, 81, rfl⟩
abbrev main_v52 : Ref sig .tc := ⟨.hbm, 82, rfl⟩
abbrev main_cst_16 : Ref sig .tc := ⟨.hbm, 83, rfl⟩
abbrev main_v53 : Ref sig .tc := ⟨.hbm, 84, rfl⟩
abbrev main_v54 : Ref sig .tc := ⟨.hbm, 85, rfl⟩
abbrev main_cst_17 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_18 : Ref sig .tc := ⟨.hbm, 90, rfl⟩
abbrev main_v58 : Ref sig .tc := ⟨.hbm, 91, rfl⟩
abbrev main_v59 : Ref sig .tc := ⟨.hbm, 92, rfl⟩
abbrev main_cst_19 : Ref sig .tc := ⟨.hbm, 93, rfl⟩
abbrev main_v60 : Ref sig .tc := ⟨.hbm, 94, rfl⟩
abbrev main_v61 : Ref sig .tc := ⟨.hbm, 95, rfl⟩
abbrev main_cst_20 : Ref sig .tc := ⟨.hbm, 96, rfl⟩
abbrev main_v62 : Ref sig .tc := ⟨.hbm, 97, rfl⟩
abbrev main_v63 : Ref sig .tc := ⟨.hbm, 98, rfl⟩
abbrev main_cst_21 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_cst_22 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_23 : Ref sig .tc := ⟨.hbm, 107, rfl⟩
abbrev main_v70 : Ref sig .tc := ⟨.hbm, 108, rfl⟩
abbrev main_v71 : Ref sig .tc := ⟨.hbm, 109, rfl⟩
abbrev main_cst_24 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_25 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_26 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_cst_27 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_28 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_29 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_30 : Ref sig .tc := ⟨.hbm, 164, rfl⟩
abbrev main_v120 : Ref sig .tc := ⟨.hbm, 165, rfl⟩
abbrev main_v121 : Ref sig .tc := ⟨.hbm, 166, rfl⟩
abbrev main_cst_31 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_32 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_cst_33 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_34 : Ref sig .tc := ⟨.hbm, 179, rfl⟩
abbrev main_cst_35 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_v131 : Ref sig .tc := ⟨.hbm, 186, rfl⟩
abbrev main_cst_36 : Ref sig .tc := ⟨.hbm, 187, rfl⟩
abbrev main_cst_37 : Ref sig .tc := ⟨.hbm, 188, rfl⟩
abbrev main_call5_v0 : Ref sig .tc := ⟨.hbm, 189, rfl⟩
abbrev main_call5_v1 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_c_38 : Ref sig .tc := ⟨.hbm, 199, rfl⟩
abbrev main_v137 : Ref sig .tc := ⟨.hbm, 200, rfl⟩
abbrev main_v138 : Ref sig .tc := ⟨.hbm, 201, rfl⟩
abbrev main_c_39 : Ref sig .tc := ⟨.hbm, 202, rfl⟩
abbrev main_v139 : Ref sig .tc := ⟨.hbm, 203, rfl⟩
abbrev main_v140 : Ref sig .tc := ⟨.hbm, 204, rfl⟩
abbrev main_c_40 : Ref sig .tc := ⟨.hbm, 205, rfl⟩
abbrev main_v141 : Ref sig .tc := ⟨.hbm, 206, rfl⟩
abbrev main_v142 : Ref sig .tc := ⟨.hbm, 207, rfl⟩
abbrev main_c_41 : Ref sig .tc := ⟨.hbm, 208, rfl⟩
abbrev main_v143 : Ref sig .tc := ⟨.hbm, 209, rfl⟩
abbrev main_v144 : Ref sig .tc := ⟨.hbm, 210, rfl⟩
abbrev main_c_42 : Ref sig .tc := ⟨.hbm, 211, rfl⟩
abbrev main_v145 : Ref sig .tc := ⟨.hbm, 212, rfl⟩
abbrev main_v146 : Ref sig .tc := ⟨.hbm, 213, rfl⟩
abbrev main_c_43 : Ref sig .tc := ⟨.hbm, 214, rfl⟩
abbrev main_v147 : Ref sig .tc := ⟨.hbm, 215, rfl⟩
abbrev main_v148 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_cst_44 : Ref sig .tc := ⟨.hbm, 221, rfl⟩
abbrev main_v153 : Ref sig .tc := ⟨.hbm, 222, rfl⟩
abbrev main_v154 : Ref sig .tc := ⟨.hbm, 223, rfl⟩
abbrev main_cst_45 : Ref sig .tc := ⟨.hbm, 224, rfl⟩
abbrev main_v155 : Ref sig .tc := ⟨.hbm, 225, rfl⟩
abbrev main_v156 : Ref sig .tc := ⟨.hbm, 226, rfl⟩
abbrev main_c_46 : Ref sig .tc := ⟨.hbm, 227, rfl⟩
abbrev main_v157 : Ref sig .tc := ⟨.hbm, 228, rfl⟩
abbrev main_v158 : Ref sig .tc := ⟨.hbm, 229, rfl⟩
abbrev main_c_47 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_c_48 : Ref sig .tc := ⟨.hbm, 234, rfl⟩
abbrev main_v162 : Ref sig .tc := ⟨.hbm, 235, rfl⟩
abbrev main_v163 : Ref sig .tc := ⟨.hbm, 236, rfl⟩
abbrev main_c_49 : Ref sig .tc := ⟨.hbm, 237, rfl⟩
abbrev main_v164 : Ref sig .tc := ⟨.hbm, 238, rfl⟩
abbrev main_v165 : Ref sig .tc := ⟨.hbm, 239, rfl⟩
abbrev main_v166 : Ref sig .tc := ⟨.hbm, 240, rfl⟩
abbrev main_c_50 : Ref sig .tc := ⟨.hbm, 241, rfl⟩
abbrev main_v167 : Ref sig .tc := ⟨.hbm, 242, rfl⟩
abbrev main_v168 : Ref sig .tc := ⟨.hbm, 243, rfl⟩
abbrev main_c_51 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_c_52 : Ref sig .tc := ⟨.hbm, 253, rfl⟩
abbrev main_v177 : Ref sig .tc := ⟨.hbm, 254, rfl⟩
abbrev main_v178 : Ref sig .tc := ⟨.hbm, 255, rfl⟩
abbrev main_c_53 : Ref sig .tc := ⟨.hbm, 256, rfl⟩
abbrev main_v179 : Ref sig .tc := ⟨.hbm, 257, rfl⟩
abbrev main_v180 : Ref sig .tc := ⟨.hbm, 258, rfl⟩
abbrev main_v181 : Ref sig .tc := ⟨.hbm, 259, rfl⟩
abbrev main_c_54 : Ref sig .tc := ⟨.hbm, 260, rfl⟩
abbrev main_v182 : Ref sig .tc := ⟨.hbm, 261, rfl⟩
abbrev main_v183 : Ref sig .tc := ⟨.hbm, 262, rfl⟩
abbrev main_c_55 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_c_56 : Ref sig .tc := ⟨.hbm, 267, rfl⟩
abbrev main_v187 : Ref sig .tc := ⟨.hbm, 268, rfl⟩
abbrev main_v188 : Ref sig .tc := ⟨.hbm, 269, rfl⟩
abbrev main_c_57 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_c_58 : Ref sig .tc := ⟨.hbm, 279, rfl⟩
abbrev main_v197 : Ref sig .tc := ⟨.hbm, 280, rfl⟩
abbrev main_v198 : Ref sig .tc := ⟨.hbm, 281, rfl⟩
abbrev main_c_59 : Ref sig .tc := ⟨.hbm, 282, rfl⟩
abbrev main_v199 : Ref sig .tc := ⟨.hbm, 283, rfl⟩
abbrev main_v200 : Ref sig .tc := ⟨.hbm, 284, rfl⟩
abbrev main_v201 : Ref sig .tc := ⟨.hbm, 285, rfl⟩
abbrev main_c_60 : Ref sig .tc := ⟨.hbm, 286, rfl⟩
abbrev main_v202 : Ref sig .tc := ⟨.hbm, 287, rfl⟩
abbrev main_v203 : Ref sig .tc := ⟨.hbm, 288, rfl⟩
abbrev main_c_61 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_c_62 : Ref sig .tc := ⟨.hbm, 293, rfl⟩
abbrev main_v207 : Ref sig .tc := ⟨.hbm, 294, rfl⟩
abbrev main_v208 : Ref sig .tc := ⟨.hbm, 295, rfl⟩
abbrev main_c_63 : Ref sig .tc := ⟨.hbm, 296, rfl⟩
abbrev main_v209 : Ref sig .tc := ⟨.hbm, 297, rfl⟩
abbrev main_v210 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_c_64 : Ref sig .tc := ⟨.hbm, 305, rfl⟩
abbrev main_v217 : Ref sig .tc := ⟨.hbm, 306, rfl⟩
abbrev main_v218 : Ref sig .tc := ⟨.hbm, 307, rfl⟩
abbrev main_c_65 : Ref sig .tc := ⟨.hbm, 308, rfl⟩
abbrev main_v219 : Ref sig .tc := ⟨.hbm, 309, rfl⟩
abbrev main_v220 : Ref sig .tc := ⟨.hbm, 310, rfl⟩
abbrev main_v221 : Ref sig .tc := ⟨.hbm, 311, rfl⟩
abbrev main_c_66 : Ref sig .tc := ⟨.hbm, 312, rfl⟩
abbrev main_v222 : Ref sig .tc := ⟨.hbm, 313, rfl⟩
abbrev main_v223 : Ref sig .tc := ⟨.hbm, 314, rfl⟩
abbrev main_c_67 : Ref sig .tc := ⟨.hbm, 315, rfl⟩
abbrev main_v224 : Ref sig .tc := ⟨.hbm, 316, rfl⟩
abbrev main_v225 : Ref sig .tc := ⟨.hbm, 317, rfl⟩
abbrev main_v226 : Ref sig .tc := ⟨.hbm, 318, rfl⟩
abbrev main_c_68 : Ref sig .tc := ⟨.hbm, 319, rfl⟩
abbrev main_v227 : Ref sig .tc := ⟨.hbm, 320, rfl⟩
abbrev main_v228 : Ref sig .tc := ⟨.hbm, 321, rfl⟩
abbrev main_c_69 : Ref sig .tc := ⟨.hbm, 322, rfl⟩
abbrev main_v229 : Ref sig .tc := ⟨.hbm, 323, rfl⟩
abbrev main_v230 : Ref sig .tc := ⟨.hbm, 324, rfl⟩
abbrev main_v231 : Ref sig .tc := ⟨.hbm, 325, rfl⟩
abbrev main_v232 : Ref sig .tc := ⟨.hbm, 326, rfl⟩
abbrev main_v233 : Ref sig .tc := ⟨.hbm, 327, rfl⟩
abbrev main_v234 : Ref sig .tc := ⟨.hbm, 328, rfl⟩
abbrev main_v235 : Ref sig .tc := ⟨.hbm, 329, rfl⟩
abbrev main_v236 : Ref sig .tc := ⟨.hbm, 330, rfl⟩
abbrev main_v237 : Ref sig .tc := ⟨.hbm, 331, rfl⟩
abbrev main_v238 : Ref sig .tc := ⟨.hbm, 332, rfl⟩
abbrev main_v239 : Ref sig .tc := ⟨.hbm, 333, rfl⟩
abbrev main_v240 : Ref sig .tc := ⟨.hbm, 334, rfl⟩
abbrev main_v241 : Ref sig .tc := ⟨.hbm, 335, rfl⟩
abbrev main_v242 : Ref sig .tc := ⟨.hbm, 336, rfl⟩
abbrev main_v243 : Ref sig .tc := ⟨.hbm, 337, rfl⟩
abbrev main_v244 : Ref sig .tc := ⟨.hbm, 338, rfl⟩
abbrev main_v245 : Ref sig .tc := ⟨.hbm, 339, rfl⟩
abbrev main_v246 : Ref sig .tc := ⟨.hbm, 340, rfl⟩
abbrev main_v247 : Ref sig .tc := ⟨.hbm, 341, rfl⟩
abbrev main_v248 : Ref sig .tc := ⟨.hbm, 342, rfl⟩
abbrev main_v249 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_v255 : Ref sig .tc := ⟨.hbm, 349, rfl⟩
abbrev main_v256 : Ref sig .tc := ⟨.hbm, 350, rfl⟩
abbrev main_v257 : Ref sig .tc := ⟨.hbm, 351, rfl⟩
abbrev main_v258 : Ref sig .tc := ⟨.hbm, 352, rfl⟩
abbrev main_v259 : Ref sig .tc := ⟨.hbm, 353, rfl⟩
abbrev main_cst_70 : Ref sig .tc := ⟨.hbm, 354, rfl⟩
abbrev main_v260 : Ref sig .tc := ⟨.hbm, 355, rfl⟩
abbrev main_cst_71 : Ref sig .tc := ⟨.hbm, 356, rfl⟩
abbrev main_v261 : Ref sig .tc := ⟨.hbm, 357, rfl⟩
abbrev main_v262 : Ref sig .tc := ⟨.hbm, 358, rfl⟩
abbrev main_v263 : Ref sig .tc := ⟨.hbm, 359, rfl⟩
abbrev main_v264 : Ref sig .tc := ⟨.hbm, 360, rfl⟩
abbrev main_v265 : Ref sig .tc := ⟨.hbm, 361, rfl⟩
abbrev main_v266 : Ref sig .tc := ⟨.hbm, 362, rfl⟩
abbrev main_v267 : Ref sig .tc := ⟨.hbm, 363, rfl⟩
abbrev main_v268 : Ref sig .tc := ⟨.hbm, 364, rfl⟩
abbrev main_v269 : Ref sig .tc := ⟨.hbm, 365, rfl⟩
abbrev main_v270 : Ref sig .tc := ⟨.hbm, 366, rfl⟩
abbrev main_v271 : Ref sig .tc := ⟨.hbm, 367, rfl⟩
abbrev main_v272 : Ref sig .tc := ⟨.hbm, 368, rfl⟩
abbrev main_v273 : Ref sig .tc := ⟨.hbm, 369, rfl⟩
abbrev main_v274 : Ref sig .tc := ⟨.hbm, 370, rfl⟩
abbrev main_c_72 : Ref sig .tc := ⟨.hbm, 371, rfl⟩
abbrev main_v275 : Ref sig .tc := ⟨.hbm, 372, rfl⟩
abbrev main_v276 : Ref sig .tc := ⟨.hbm, 373, rfl⟩
abbrev main_c_73 : Ref sig .tc := ⟨.hbm, 374, rfl⟩
abbrev main_v277 : Ref sig .tc := ⟨.hbm, 375, rfl⟩
abbrev main_v278 : Ref sig .tc := ⟨.hbm, 376, rfl⟩
abbrev main_v279 : Ref sig .tc := ⟨.hbm, 377, rfl⟩
abbrev main_c_74 : Ref sig .tc := ⟨.hbm, 378, rfl⟩
abbrev main_v280 : Ref sig .tc := ⟨.hbm, 379, rfl⟩
abbrev main_v281 : Ref sig .tc := ⟨.hbm, 380, rfl⟩
abbrev main_v282 : Ref sig .tc := ⟨.hbm, 381, rfl⟩
abbrev main_v283 : Ref sig .tc := ⟨.hbm, 382, rfl⟩
abbrev main_v284 : Ref sig .tc := ⟨.hbm, 383, rfl⟩
abbrev main_v285 : Ref sig .tc := ⟨.hbm, 384, rfl⟩
abbrev main_v286 : Ref sig .tc := ⟨.hbm, 385, rfl⟩
abbrev main_c_75 : Ref sig .tc := ⟨.hbm, 386, rfl⟩
abbrev main_v287 : Ref sig .tc := ⟨.hbm, 387, rfl⟩
abbrev main_v288 : Ref sig .tc := ⟨.hbm, 388, rfl⟩
abbrev main_c_76 : Ref sig .tc := ⟨.hbm, 389, rfl⟩
abbrev main_v289 : Ref sig .tc := ⟨.hbm, 390, rfl⟩
abbrev main_v290 : Ref sig .tc := ⟨.hbm, 391, rfl⟩
abbrev main_v291 : Ref sig .tc := ⟨.hbm, 392, rfl⟩
abbrev main_c_77 : Ref sig .tc := ⟨.hbm, 393, rfl⟩
abbrev main_v292 : Ref sig .tc := ⟨.hbm, 394, rfl⟩
abbrev main_v293 : Ref sig .tc := ⟨.hbm, 395, rfl⟩
abbrev main_v294 : Ref sig .tc := ⟨.hbm, 396, rfl⟩
abbrev main_v295 : Ref sig .tc := ⟨.hbm, 397, rfl⟩
abbrev main_v296 : Ref sig .tc := ⟨.hbm, 398, rfl⟩
abbrev main_v297 : Ref sig .tc := ⟨.hbm, 399, rfl⟩
abbrev main_v298 : Ref sig .tc := ⟨.hbm, 400, rfl⟩
abbrev main_v299 : Ref sig .tc := ⟨.hbm, 401, rfl⟩
abbrev main_c_78 : Ref sig .tc := ⟨.hbm, 402, rfl⟩
abbrev main_c_79 : Ref sig .tc := ⟨.hbm, 403, rfl⟩
abbrev main_call8_v0 : Ref sig .tc := ⟨.hbm, 404, rfl⟩
abbrev main_call8_v1 : Ref sig .tc := ⟨.hbm, 405, rfl⟩
abbrev main_call8_v2 : Ref sig .tc := ⟨.hbm, 406, rfl⟩
abbrev main_call8_v3 : Ref sig .tc := ⟨.hbm, 407, rfl⟩
abbrev main_call8_v4 : Ref sig .tc := ⟨.hbm, 408, rfl⟩
abbrev main_v300 : Ref sig .tc := ⟨.hbm, 409, rfl⟩
abbrev main_v301 : Ref sig .tc := ⟨.hbm, 410, rfl⟩
abbrev main_c_80 : Ref sig .tc := ⟨.hbm, 411, rfl⟩
abbrev main_c_81 : Ref sig .tc := ⟨.hbm, 412, rfl⟩
abbrev main_call9_v0 : Ref sig .tc := ⟨.hbm, 413, rfl⟩
abbrev main_call9_v1 : Ref sig .tc := ⟨.hbm, 414, rfl⟩
abbrev main_call9_v2 : Ref sig .tc := ⟨.hbm, 415, rfl⟩
abbrev main_call9_v3 : Ref sig .tc := ⟨.hbm, 416, rfl⟩
abbrev main_call9_v4 : Ref sig .tc := ⟨.hbm, 417, rfl⟩
abbrev main_v302 : Ref sig .tc := ⟨.hbm, 418, rfl⟩
abbrev main_v303 : Ref sig .tc := ⟨.hbm, 419, rfl⟩
abbrev main_v304 : Ref sig .tc := ⟨.hbm, 420, rfl⟩
abbrev main_v305 : Ref sig .tc := ⟨.hbm, 421, rfl⟩
abbrev main_v306 : Ref sig .tc := ⟨.hbm, 422, rfl⟩
abbrev main_v307 : Ref sig .tc := ⟨.hbm, 423, rfl⟩
abbrev main_v308 : Ref sig .tc := ⟨.hbm, 424, rfl⟩
abbrev main_cst_82 : Ref sig .tc := ⟨.hbm, 425, rfl⟩
abbrev main_v309 : Ref sig .tc := ⟨.hbm, 426, rfl⟩
abbrev main_v310 : Ref sig .tc := ⟨.hbm, 427, rfl⟩
abbrev main_cst_83 : Ref sig .tc := ⟨.hbm, 428, rfl⟩
abbrev main_v311 : Ref sig .tc := ⟨.hbm, 429, rfl⟩
abbrev main_v312 : Ref sig .tc := ⟨.hbm, 430, rfl⟩
abbrev main_cst_84 : Ref sig .tc := ⟨.hbm, 431, rfl⟩
abbrev main_v313 : Ref sig .tc := ⟨.hbm, 432, rfl⟩
abbrev main_v314 : Ref sig .tc := ⟨.hbm, 433, rfl⟩
abbrev main_cst_85 : Ref sig .tc := ⟨.hbm, 434, rfl⟩
abbrev main_v315 : Ref sig .tc := ⟨.hbm, 435, rfl⟩
abbrev main_v316 : Ref sig .tc := ⟨.hbm, 436, rfl⟩
abbrev main_cst_86 : Ref sig .tc := ⟨.hbm, 437, rfl⟩
abbrev main_v317 : Ref sig .tc := ⟨.hbm, 438, rfl⟩
abbrev main_v318 : Ref sig .tc := ⟨.hbm, 439, rfl⟩
abbrev main_cst_87 : Ref sig .tc := ⟨.hbm, 440, rfl⟩
abbrev main_v319 : Ref sig .tc := ⟨.hbm, 441, rfl⟩
abbrev main_v320 : Ref sig .tc := ⟨.hbm, 442, rfl⟩
abbrev main_v321 : Ref sig .tc := ⟨.hbm, 443, rfl⟩
abbrev main_cst_88 : Ref sig .tc := ⟨.hbm, 444, rfl⟩
abbrev main_v322 : Ref sig .tc := ⟨.hbm, 445, rfl⟩
abbrev main_v323 : Ref sig .tc := ⟨.hbm, 446, rfl⟩
abbrev main_cst_89 : Ref sig .tc := ⟨.hbm, 447, rfl⟩
abbrev main_v324 : Ref sig .tc := ⟨.hbm, 448, rfl⟩
abbrev main_v325 : Ref sig .tc := ⟨.hbm, 449, rfl⟩
abbrev main_cst_90 : Ref sig .tc := ⟨.hbm, 450, rfl⟩
abbrev main_v326 : Ref sig .tc := ⟨.hbm, 451, rfl⟩
abbrev main_v327 : Ref sig .tc := ⟨.hbm, 452, rfl⟩
abbrev main_cst_91 : Ref sig .tc := ⟨.hbm, 453, rfl⟩
abbrev main_v328 : Ref sig .tc := ⟨.hbm, 454, rfl⟩
abbrev main_v329 : Ref sig .tc := ⟨.hbm, 455, rfl⟩
abbrev main_v330 : Ref sig .tc := ⟨.hbm, 456, rfl⟩
abbrev main_cst_92 : Ref sig .tc := ⟨.hbm, 457, rfl⟩
abbrev main_v331 : Ref sig .tc := ⟨.hbm, 458, rfl⟩
abbrev main_v332 : Ref sig .tc := ⟨.hbm, 459, rfl⟩
abbrev main_v333 : Ref sig .tc := ⟨.hbm, 460, rfl⟩
abbrev main_cst_93 : Ref sig .tc := ⟨.hbm, 461, rfl⟩
abbrev main_v334 : Ref sig .tc := ⟨.hbm, 462, rfl⟩
abbrev main_v335 : Ref sig .tc := ⟨.hbm, 463, rfl⟩
abbrev main_cst_94 : Ref sig .tc := ⟨.hbm, 464, rfl⟩
abbrev main_v336 : Ref sig .tc := ⟨.hbm, 465, rfl⟩
abbrev main_v337 : Ref sig .tc := ⟨.hbm, 466, rfl⟩
abbrev main_v338 : Ref sig .tc := ⟨.hbm, 467, rfl⟩
abbrev main_cst_95 : Ref sig .tc := ⟨.hbm, 468, rfl⟩
abbrev main_v339 : Ref sig .tc := ⟨.hbm, 469, rfl⟩
abbrev main_v340 : Ref sig .tc := ⟨.hbm, 470, rfl⟩
abbrev main_v341 : Ref sig .tc := ⟨.hbm, 471, rfl⟩
abbrev main_v342 : Ref sig .tc := ⟨.hbm, 472, rfl⟩
abbrev main_v343 : Ref sig .tc := ⟨.hbm, 473, rfl⟩
abbrev main_v344 : Ref sig .tc := ⟨.hbm, 474, rfl⟩
abbrev main_v345 : Ref sig .tc := ⟨.hbm, 475, rfl⟩
abbrev main_v346 : Ref sig .tc := ⟨.hbm, 476, rfl⟩
abbrev main_v347 : Ref sig .tc := ⟨.hbm, 477, rfl⟩
abbrev main_v348 : Ref sig .tc := ⟨.hbm, 478, rfl⟩
abbrev main_v349 : Ref sig .tc := ⟨.hbm, 479, rfl⟩
abbrev main_v350 : Ref sig .tc := ⟨.hbm, 480, rfl⟩
abbrev main_v351 : Ref sig .tc := ⟨.hbm, 481, rfl⟩
abbrev main_cst_96 : Ref sig .tc := ⟨.hbm, 482, rfl⟩
abbrev main_v352 : Ref sig .tc := ⟨.hbm, 483, rfl⟩
abbrev main_v353 : Ref sig .tc := ⟨.hbm, 484, rfl⟩
abbrev main_v354 : Ref sig .tc := ⟨.hbm, 485, rfl⟩
abbrev main_v355 : Ref sig .tc := ⟨.hbm, 486, rfl⟩
abbrev main_v356 : Ref sig .tc := ⟨.hbm, 487, rfl⟩
abbrev main_cst_97 : Ref sig .tc := ⟨.hbm, 488, rfl⟩
abbrev main_v357 : Ref sig .tc := ⟨.hbm, 489, rfl⟩
abbrev main_v358 : Ref sig .tc := ⟨.hbm, 490, rfl⟩
abbrev main_v359 : Ref sig .tc := ⟨.hbm, 491, rfl⟩
abbrev main_v360 : Ref sig .tc := ⟨.hbm, 492, rfl⟩
abbrev main_v361 : Ref sig .tc := ⟨.hbm, 493, rfl⟩
abbrev main_v362 : Ref sig .tc := ⟨.hbm, 494, rfl⟩
abbrev main_v363 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_cst_98 : Ref sig .tc := ⟨.hbm, 500, rfl⟩
abbrev main_v368 : Ref sig .tc := ⟨.hbm, 501, rfl⟩
abbrev main_v369 : Ref sig .tc := ⟨.hbm, 502, rfl⟩
abbrev main_v370 : Ref sig .tc := ⟨.hbm, 503, rfl⟩
abbrev main_v371 : Ref sig .tc := ⟨.hbm, 504, rfl⟩
abbrev main_v372 : Ref sig .tc := ⟨.hbm, 505, rfl⟩
abbrev main_cst_99 : Ref sig .tc := ⟨.hbm, 506, rfl⟩
abbrev main_v373 : Ref sig .tc := ⟨.hbm, 507, rfl⟩
abbrev main_v374 : Ref sig .tc := ⟨.hbm, 508, rfl⟩
abbrev main_v375 : Ref sig .tc := ⟨.hbm, 509, rfl⟩
abbrev main_v376 : Ref sig .tc := ⟨.hbm, 510, rfl⟩
abbrev main_v377 : Ref sig .tc := ⟨.hbm, 511, rfl⟩
abbrev main_v378 : Ref sig .tc := ⟨.hbm, 512, rfl⟩
abbrev main_v379 : Ref sig .tc := ⟨.hbm, 513, rfl⟩
abbrev main_v380 : Ref sig .tc := ⟨.hbm, 514, rfl⟩
abbrev main_v381 : Ref sig .tc := ⟨.hbm, 515, rfl⟩
abbrev main_v382 : Ref sig .tc := ⟨.hbm, 516, rfl⟩
abbrev main_v383 : Ref sig .tc := ⟨.hbm, 517, rfl⟩
abbrev main_cst_100 : Ref sig .tc := ⟨.hbm, 518, rfl⟩
abbrev main_v384 : Ref sig .tc := ⟨.hbm, 519, rfl⟩
abbrev main_v385 : Ref sig .tc := ⟨.hbm, 520, rfl⟩
abbrev main_cst_101 : Ref sig .tc := ⟨.hbm, 521, rfl⟩
abbrev main_v386 : Ref sig .tc := ⟨.hbm, 522, rfl⟩
abbrev main_v387 : Ref sig .tc := ⟨.hbm, 523, rfl⟩
abbrev main_v388 : Ref sig .tc := ⟨.hbm, 524, rfl⟩
abbrev main_cst_102 : Ref sig .tc := ⟨.hbm, 525, rfl⟩
abbrev main_v389 : Ref sig .tc := ⟨.hbm, 526, rfl⟩
abbrev main_v390 : Ref sig .tc := ⟨.hbm, 527, rfl⟩
abbrev main_v391 : Ref sig .tc := ⟨.hbm, 528, rfl⟩
abbrev main_cst_103 : Ref sig .tc := ⟨.hbm, 529, rfl⟩
abbrev main_v392 : Ref sig .tc := ⟨.hbm, 530, rfl⟩
abbrev main_v393 : Ref sig .tc := ⟨.hbm, 531, rfl⟩
abbrev main_v394 : Ref sig .tc := ⟨.hbm, 532, rfl⟩
abbrev main_cst_104 : Ref sig .tc := ⟨.hbm, 533, rfl⟩
abbrev main_cst_105 : Ref sig .tc := ⟨.hbm, 534, rfl⟩
abbrev main_call10_v0 : Ref sig .tc := ⟨.hbm, 535, rfl⟩
abbrev main_call10_v1 : Ref sig .tc := ⟨.hbm, 536, rfl⟩
abbrev main_call10_v2 : Ref sig .tc := ⟨.hbm, 537, rfl⟩
abbrev main_call10_v3 : Ref sig .tc := ⟨.hbm, 538, rfl⟩
abbrev main_call10_v4 : Ref sig .tc := ⟨.hbm, 539, rfl⟩
abbrev main_v395 : Ref sig .tc := ⟨.hbm, 540, rfl⟩
abbrev main_cst_106 : Ref sig .tc := ⟨.hbm, 541, rfl⟩
abbrev main_cst_107 : Ref sig .tc := ⟨.hbm, 542, rfl⟩
abbrev main_call11_v0 : Ref sig .tc := ⟨.hbm, 543, rfl⟩
abbrev main_call11_v1 : Ref sig .tc := ⟨.hbm, 544, rfl⟩
abbrev main_call11_v2 : Ref sig .tc := ⟨.hbm, 545, rfl⟩
abbrev main_call11_v3 : Ref sig .tc := ⟨.hbm, 546, rfl⟩
abbrev main_call11_v4 : Ref sig .tc := ⟨.hbm, 547, rfl⟩
abbrev main_v396 : Ref sig .tc := ⟨.hbm, 548, rfl⟩
abbrev main_v397 : Ref sig .tc := ⟨.hbm, 549, rfl⟩
abbrev main_v398 : Ref sig .tc := ⟨.hbm, 550, rfl⟩
abbrev main_v399 : Ref sig .tc := ⟨.hbm, 551, rfl⟩
abbrev main_v400 : Ref sig .tc := ⟨.hbm, 552, rfl⟩
abbrev main_c_108 : Ref sig .tc := ⟨.hbm, 553, rfl⟩
abbrev main_v401 : Ref sig .tc := ⟨.hbm, 554, rfl⟩
abbrev main_v402 : Ref sig .tc := ⟨.hbm, 555, rfl⟩
abbrev main_c_109 : Ref sig .tc := ⟨.hbm, 556, rfl⟩
abbrev main_v403 : Ref sig .tc := ⟨.hbm, 557, rfl⟩
abbrev main_v404 : Ref sig .tc := ⟨.hbm, 558, rfl⟩
abbrev main_c_110 : Ref sig .tc := ⟨.hbm, 559, rfl⟩
abbrev main_v405 : Ref sig .tc := ⟨.hbm, 560, rfl⟩
abbrev main_v406 : Ref sig .tc := ⟨.hbm, 561, rfl⟩
abbrev main_c_111 : Ref sig .tc := ⟨.hbm, 562, rfl⟩
abbrev main_v407 : Ref sig .tc := ⟨.hbm, 563, rfl⟩
abbrev main_v408 : Ref sig .tc := ⟨.hbm, 564, rfl⟩
abbrev main_c_112 : Ref sig .tc := ⟨.hbm, 565, rfl⟩
abbrev main_v409 : Ref sig .tc := ⟨.hbm, 566, rfl⟩
abbrev main_v410 : Ref sig .tc := ⟨.hbm, 567, rfl⟩
abbrev main_c_113 : Ref sig .tc := ⟨.hbm, 568, rfl⟩
abbrev main_v411 : Ref sig .tc := ⟨.hbm, 569, rfl⟩
abbrev main_v412 : Ref sig .tc := ⟨.hbm, 570, rfl⟩
abbrev main_v413 : Ref sig .tc := ⟨.hbm, 571, rfl⟩
abbrev main_v414 : Ref sig .tc := ⟨.hbm, 572, rfl⟩
abbrev main_v415 : Ref sig .tc := ⟨.hbm, 573, rfl⟩
abbrev main_v416 : Ref sig .tc := ⟨.hbm, 574, rfl⟩
abbrev main_cst_114 : Ref sig .tc := ⟨.hbm, 575, rfl⟩
abbrev main_v417 : Ref sig .tc := ⟨.hbm, 576, rfl⟩
abbrev main_v418 : Ref sig .tc := ⟨.hbm, 577, rfl⟩
abbrev main_cst_115 : Ref sig .tc := ⟨.hbm, 578, rfl⟩
abbrev main_v419 : Ref sig .tc := ⟨.hbm, 579, rfl⟩
abbrev main_v420 : Ref sig .tc := ⟨.hbm, 580, rfl⟩
abbrev main_c_116 : Ref sig .tc := ⟨.hbm, 581, rfl⟩
abbrev main_v421 : Ref sig .tc := ⟨.hbm, 582, rfl⟩
abbrev main_v422 : Ref sig .tc := ⟨.hbm, 583, rfl⟩
abbrev main_c_117 : Ref sig .tc := ⟨.hbm, 584, rfl⟩
abbrev main_v423 : Ref sig .tc := ⟨.hbm, 585, rfl⟩
abbrev main_v424 : Ref sig .tc := ⟨.hbm, 586, rfl⟩
abbrev main_v425 : Ref sig .tc := ⟨.hbm, 587, rfl⟩
abbrev main_c_118 : Ref sig .tc := ⟨.hbm, 588, rfl⟩
abbrev main_v426 : Ref sig .tc := ⟨.hbm, 589, rfl⟩
abbrev main_v427 : Ref sig .tc := ⟨.hbm, 590, rfl⟩
abbrev main_c_119 : Ref sig .tc := ⟨.hbm, 591, rfl⟩
abbrev main_v428 : Ref sig .tc := ⟨.hbm, 592, rfl⟩
abbrev main_v429 : Ref sig .tc := ⟨.hbm, 593, rfl⟩
abbrev main_v430 : Ref sig .tc := ⟨.hbm, 594, rfl⟩
abbrev main_c_120 : Ref sig .tc := ⟨.hbm, 595, rfl⟩
abbrev main_v431 : Ref sig .tc := ⟨.hbm, 596, rfl⟩
abbrev main_v432 : Ref sig .tc := ⟨.hbm, 597, rfl⟩
abbrev main_c_121 : Ref sig .tc := ⟨.hbm, 598, rfl⟩
abbrev main_v433 : Ref sig .tc := ⟨.hbm, 599, rfl⟩
abbrev main_v434 : Ref sig .tc := ⟨.hbm, 600, rfl⟩
abbrev main_v435 : Ref sig .tc := ⟨.hbm, 601, rfl⟩
abbrev main_v436 : Ref sig .tc := ⟨.hbm, 602, rfl⟩
abbrev main_v437 : Ref sig .tc := ⟨.hbm, 603, rfl⟩
abbrev main_v438 : Ref sig .tc := ⟨.hbm, 604, rfl⟩
abbrev main_v439 : Ref sig .tc := ⟨.hbm, 605, rfl⟩
abbrev main_v440 : Ref sig .tc := ⟨.hbm, 606, rfl⟩
abbrev main_c_122 : Ref sig .tc := ⟨.hbm, 607, rfl⟩
abbrev main_v441 : Ref sig .tc := ⟨.hbm, 608, rfl⟩
abbrev main_v442 : Ref sig .tc := ⟨.hbm, 609, rfl⟩
abbrev main_c_123 : Ref sig .tc := ⟨.hbm, 610, rfl⟩
abbrev main_v443 : Ref sig .tc := ⟨.hbm, 611, rfl⟩
abbrev main_v444 : Ref sig .tc := ⟨.hbm, 612, rfl⟩
abbrev main_v445 : Ref sig .tc := ⟨.hbm, 613, rfl⟩
abbrev main_c_124 : Ref sig .tc := ⟨.hbm, 614, rfl⟩
abbrev main_v446 : Ref sig .tc := ⟨.hbm, 615, rfl⟩
abbrev main_v447 : Ref sig .tc := ⟨.hbm, 616, rfl⟩
abbrev main_c_125 : Ref sig .tc := ⟨.hbm, 617, rfl⟩
abbrev main_v448 : Ref sig .tc := ⟨.hbm, 618, rfl⟩
abbrev main_v449 : Ref sig .tc := ⟨.hbm, 619, rfl⟩
abbrev main_v450 : Ref sig .tc := ⟨.hbm, 620, rfl⟩
abbrev main_c_126 : Ref sig .tc := ⟨.hbm, 621, rfl⟩
abbrev main_v451 : Ref sig .tc := ⟨.hbm, 622, rfl⟩
abbrev main_v452 : Ref sig .tc := ⟨.hbm, 623, rfl⟩
abbrev main_c_127 : Ref sig .tc := ⟨.hbm, 624, rfl⟩
abbrev main_v453 : Ref sig .tc := ⟨.hbm, 625, rfl⟩
abbrev main_v454 : Ref sig .tc := ⟨.hbm, 626, rfl⟩
abbrev main_v455 : Ref sig .tc := ⟨.hbm, 627, rfl⟩
abbrev main_v456 : Ref sig .tc := ⟨.hbm, 628, rfl⟩
abbrev main_v457 : Ref sig .tc := ⟨.hbm, 629, rfl⟩
abbrev main_v458 : Ref sig .tc := ⟨.hbm, 630, rfl⟩
abbrev main_v459 : Ref sig .tc := ⟨.hbm, 631, rfl⟩
abbrev main_v460 : Ref sig .tc := ⟨.hbm, 632, rfl⟩
abbrev main_c_128 : Ref sig .tc := ⟨.hbm, 633, rfl⟩
abbrev main_v461 : Ref sig .tc := ⟨.hbm, 634, rfl⟩
abbrev main_v462 : Ref sig .tc := ⟨.hbm, 635, rfl⟩
abbrev main_c_129 : Ref sig .tc := ⟨.hbm, 636, rfl⟩
abbrev main_v463 : Ref sig .tc := ⟨.hbm, 637, rfl⟩
abbrev main_v464 : Ref sig .tc := ⟨.hbm, 638, rfl⟩
abbrev main_v465 : Ref sig .tc := ⟨.hbm, 639, rfl⟩
abbrev main_c_130 : Ref sig .tc := ⟨.hbm, 640, rfl⟩
abbrev main_v466 : Ref sig .tc := ⟨.hbm, 641, rfl⟩
abbrev main_v467 : Ref sig .tc := ⟨.hbm, 642, rfl⟩
abbrev main_c_131 : Ref sig .tc := ⟨.hbm, 643, rfl⟩
abbrev main_v468 : Ref sig .tc := ⟨.hbm, 644, rfl⟩
abbrev main_v469 : Ref sig .tc := ⟨.hbm, 645, rfl⟩
abbrev main_v470 : Ref sig .tc := ⟨.hbm, 646, rfl⟩
abbrev main_c_132 : Ref sig .tc := ⟨.hbm, 647, rfl⟩
abbrev main_v471 : Ref sig .tc := ⟨.hbm, 648, rfl⟩
abbrev main_v472 : Ref sig .tc := ⟨.hbm, 649, rfl⟩
abbrev main_c_133 : Ref sig .tc := ⟨.hbm, 650, rfl⟩
abbrev main_v473 : Ref sig .tc := ⟨.hbm, 651, rfl⟩
abbrev main_v474 : Ref sig .tc := ⟨.hbm, 652, rfl⟩
abbrev main_v475 : Ref sig .tc := ⟨.hbm, 653, rfl⟩
abbrev main_v476 : Ref sig .tc := ⟨.hbm, 654, rfl⟩
abbrev main_v477 : Ref sig .tc := ⟨.hbm, 655, rfl⟩
abbrev main_v478 : Ref sig .tc := ⟨.hbm, 656, rfl⟩
abbrev main_v479 : Ref sig .tc := ⟨.hbm, 657, rfl⟩
abbrev main_v480 : Ref sig .tc := ⟨.hbm, 658, rfl⟩
abbrev main_c_134 : Ref sig .tc := ⟨.hbm, 659, rfl⟩
abbrev main_v481 : Ref sig .tc := ⟨.hbm, 660, rfl⟩
abbrev main_v482 : Ref sig .tc := ⟨.hbm, 661, rfl⟩
abbrev main_c_135 : Ref sig .tc := ⟨.hbm, 662, rfl⟩
abbrev main_v483 : Ref sig .tc := ⟨.hbm, 663, rfl⟩
abbrev main_v484 : Ref sig .tc := ⟨.hbm, 664, rfl⟩
abbrev main_v485 : Ref sig .tc := ⟨.hbm, 665, rfl⟩
abbrev main_c_136 : Ref sig .tc := ⟨.hbm, 666, rfl⟩
abbrev main_v486 : Ref sig .tc := ⟨.hbm, 667, rfl⟩
abbrev main_v487 : Ref sig .tc := ⟨.hbm, 668, rfl⟩
abbrev main_c_137 : Ref sig .tc := ⟨.hbm, 669, rfl⟩
abbrev main_v488 : Ref sig .tc := ⟨.hbm, 670, rfl⟩
abbrev main_v489 : Ref sig .tc := ⟨.hbm, 671, rfl⟩
abbrev main_v490 : Ref sig .tc := ⟨.hbm, 672, rfl⟩
abbrev main_c_138 : Ref sig .tc := ⟨.hbm, 673, rfl⟩
abbrev main_v491 : Ref sig .tc := ⟨.hbm, 674, rfl⟩
abbrev main_v492 : Ref sig .tc := ⟨.hbm, 675, rfl⟩
abbrev main_c_139 : Ref sig .tc := ⟨.hbm, 676, rfl⟩
abbrev main_v493 : Ref sig .tc := ⟨.hbm, 677, rfl⟩
abbrev main_v494 : Ref sig .tc := ⟨.hbm, 678, rfl⟩
abbrev main_v495 : Ref sig .tc := ⟨.hbm, 679, rfl⟩
abbrev main_v496 : Ref sig .tc := ⟨.hbm, 680, rfl⟩
abbrev main_v497 : Ref sig .tc := ⟨.hbm, 681, rfl⟩
abbrev main_v498 : Ref sig .tc := ⟨.hbm, 682, rfl⟩
abbrev main_v499 : Ref sig .tc := ⟨.hbm, 683, rfl⟩
abbrev main_v500 : Ref sig .tc := ⟨.hbm, 684, rfl⟩
abbrev main_v501 : Ref sig .tc := ⟨.hbm, 685, rfl⟩
abbrev main_v502 : Ref sig .tc := ⟨.hbm, 686, rfl⟩
abbrev main_v503 : Ref sig .tc := ⟨.hbm, 687, rfl⟩
abbrev main_v504 : Ref sig .tc := ⟨.hbm, 688, rfl⟩
abbrev main_v505 : Ref sig .tc := ⟨.hbm, 689, rfl⟩
abbrev main_v506 : Ref sig .tc := ⟨.hbm, 690, rfl⟩
abbrev main_v507 : Ref sig .tc := ⟨.hbm, 691, rfl⟩
abbrev main_v508 : Ref sig .tc := ⟨.hbm, 692, rfl⟩
abbrev main_v509 : Ref sig .tc := ⟨.hbm, 693, rfl⟩
abbrev main_v510 : Ref sig .tc := ⟨.hbm, 694, rfl⟩
abbrev main_v511 : Ref sig .tc := ⟨.hbm, 695, rfl⟩
abbrev main_v512 : Ref sig .tc := ⟨.hbm, 696, rfl⟩
abbrev main_v513 : Ref sig .tc := ⟨.hbm, 697, rfl⟩
abbrev main_v514 : Ref sig .tc := ⟨.hbm, 698, rfl⟩
abbrev main_v515 : Ref sig .tc := ⟨.hbm, 699, rfl⟩
abbrev main_v516 : Ref sig .tc := ⟨.hbm, 700, rfl⟩
abbrev main_v517 : Ref sig .tc := ⟨.hbm, 701, rfl⟩
abbrev main_v518 : Ref sig .tc := ⟨.hbm, 702, rfl⟩
abbrev main_v519 : Ref sig .tc := ⟨.hbm, 703, rfl⟩
abbrev main_v520 : Ref sig .tc := ⟨.hbm, 704, rfl⟩
abbrev main_v521 : Ref sig .tc := ⟨.hbm, 705, rfl⟩
abbrev main_v522 : Ref sig .tc := ⟨.hbm, 706, rfl⟩
abbrev main_v523 : Ref sig .tc := ⟨.hbm, 707, rfl⟩
abbrev main_cst_140 : Ref sig .tc := ⟨.hbm, 708, rfl⟩
abbrev main_v524 : Ref sig .tc := ⟨.hbm, 709, rfl⟩
abbrev main_cst_141 : Ref sig .tc := ⟨.hbm, 710, rfl⟩
abbrev main_v525 : Ref sig .tc := ⟨.hbm, 711, rfl⟩
abbrev main_v526 : Ref sig .tc := ⟨.hbm, 712, rfl⟩
abbrev main_v527 : Ref sig .tc := ⟨.hbm, 713, rfl⟩

abbrev nD : Nat := 1
abbrev τ : Topo := Topo.v7x

variable {F : FTy → Type} [FloatOps F]
-- ==== Proof.Weights.lean ====
/- The mathematics of one crop, with no program in it: the weight that a sampling point gives a row of the image, the
   weight that a bin of seven sampling points gives it, the closed form of the latter, and sums of extended reals scaled
   by nonnegative reals. -/
module

public import Mathlib.Data.EReal.Operations
public import Mathlib.Data.EReal.Inv
public import Mathlib.Algebra.BigOperators.Fin
public import Mathlib.Tactic.NormNum
public import Mathlib.Tactic.Ring

@[expose] public section

noncomputable section

namespace Cert.Proof.Crop

open scoped BigOperators

/-! ## Scaling by a nonnegative real -/

/-- Multiplication by a nonnegative real, as a map that preserves addition of extended reals. -/
def scale (c : ℝ) (hc : 0 ≤ c) : EReal →+ EReal where
  toFun x := (c : EReal) * x
  map_zero' := mul_zero _
  map_add' x y := EReal.left_distrib_of_nonneg_of_ne_top (by exact_mod_cast hc) (EReal.coe_ne_top c) x y

/-- A nonnegative real goes into a sum of extended reals. -/
theorem coe_mul_sum {ι : Type*} (s : Finset ι) {c : ℝ} (hc : 0 ≤ c) (f : ι → EReal) :
    (c : EReal) * ∑ i ∈ s, f i = ∑ i ∈ s, (c : EReal) * f i :=
  map_sum (scale c hc) f s

/-- An extended real times a sum of two nonnegative reals. -/
theorem coe_add_mul {a b : ℝ} (ha : 0 ≤ a) (hb : 0 ≤ b) (x : EReal) :
    ((a + b : ℝ) : EReal) * x = (a : EReal) * x + (b : EReal) * x := by
  rw [EReal.coe_add, EReal.right_distrib_of_nonneg (by exact_mod_cast ha) (by exact_mod_cast hb)]

/-- An extended real times a sum of nonnegative reals. -/
theorem coe_sum_mul {ι : Type*} (s : Finset ι) (c : ι → ℝ) (hc : ∀ i, 0 ≤ c i) (x : EReal) :
    ((∑ i ∈ s, c i : ℝ) : EReal) * x = ∑ i ∈ s, (c i : EReal) * x := by
  classical
  induction s using Finset.induction_on with
  | empty => simp
  | insert i s hi ih => rw [Finset.sum_insert hi, Finset.sum_insert hi, coe_add_mul (hc i) (Finset.sum_nonneg fun j _ => hc j), ih]

/-- A sum with one term scaled by one and every other by zero is that term. -/
theorem sum_pick {n : ℕ} (f : Fin n → EReal) (j : Fin n) :
    ∑ i : Fin n, (((if i = j then 1 else 0 : ℝ)) : EReal) * f i = f j := by
  rw [Finset.sum_eq_single j (fun i _ h => by rw [if_neg h]; simp) (fun h => absurd (Finset.mem_univ j) h)]
  simp

/-! ## The weights -/

/-- The row at or above the sampling point `n + 1/2`, the point held inside the image. -/
def lo (n : ℤ) : ℤ := max n 0

/-- The row below it, held inside the image. -/
def hi (n : ℤ) : ℤ := min (n + 1) 127

/-- The weight that the sampling point `n + 1/2` gives row `r` of a 128-row image: half each to the two rows next to it,
    nothing when the point is outside `(-1, 128)`. A point within one row of the border gives both halves to that row. -/
def tap (n : ℤ) (r : ℕ) : ℝ :=
  if -1 ≤ n ∧ n ≤ 127 then (if (r : ℤ) = lo n then 1 / 2 else 0) + (if (r : ℤ) = hi n then 1 / 2 else 0) else 0

/-- The mean weight that a bin of seven sampling points, the first at `z + 1/2`, gives row `r`. -/
def bin (z : ℤ) (r : ℕ) : ℝ := 7⁻¹ * ∑ g : Fin 7, tap (z + g.val) r

theorem tap_nonneg (n : ℤ) (r : ℕ) : 0 ≤ tap n r := by
  unfold tap; split_ifs <;> norm_num

theorem bin_nonneg (z : ℤ) (r : ℕ) : 0 ≤ bin z r :=
  mul_nonneg (by norm_num) (Finset.sum_nonneg fun _ _ => tap_nonneg _ _)

/-- Twice the weight of the point `n + 1/2` on row `r`, with `u = n + 24` a natural number. -/
def tap2 (u r : ℕ) : ℕ :=
  if 23 ≤ u ∧ u ≤ 151 then (if r + 24 = max u 24 then 1 else 0) + (if r + 24 = min (u + 1) 151 then 1 else 0) else 0

/-- Twice the weight of a band of rows: `u = z + 24`. -/
def band2 (u r : ℕ) : ℕ :=
  if max u 23 ≤ min (u + 6) 151 then
    (if max u 23 ≤ r + 24 ∧ r + 24 ≤ min (u + 6) 151 then 1 else 0)
      + (if max u 23 + 1 ≤ r + 24 ∧ r + 24 ≤ min (u + 6) 151 + 1 then 1 else 0)
      + (if max u 23 = 23 ∧ r = 0 then 1 else 0)
      + (if min (u + 6) 151 = 151 ∧ r = 127 then 1 else 0)
  else 0

/-- Seven points in a row weigh a row of the image as the band they cover does: over every position of the bin and
    every row. -/
theorem band2_eq : ∀ u : Fin 170, ∀ r : Fin 128,
    tap2 u.val r.val + tap2 (u.val + 1) r.val + tap2 (u.val + 2) r.val + tap2 (u.val + 3) r.val + tap2 (u.val + 4) r.val
      + tap2 (u.val + 5) r.val + tap2 (u.val + 6) r.val = band2 u.val r.val := by
  decide +kernel

/-- The weight of a point from its doubled one. -/
theorem tap_eq (u r : ℕ) : tap ((u : ℤ) - 24) r = (tap2 u r : ℝ) * (1 / 2) := by
  unfold tap tap2 lo hi
  by_cases h : 23 ≤ u ∧ u ≤ 151
  · rw [if_pos h, if_pos (by omega)]
    have e1 : (r : ℤ) = max ((u : ℤ) - 24) 0 ↔ r + 24 = max u 24 := by omega
    have e2 : (r : ℤ) = min ((u : ℤ) - 24 + 1) 127 ↔ r + 24 = min (u + 1) 151 := by omega
    simp only [e1, e2]
    split_ifs <;> norm_num
  · rw [if_neg h, if_neg (by omega)]; simp

/-- The closed form of a bin's weights on the rows of the image: the band from `a = max z (-1)` to `b = min (z + 6) 127`
    counted twice, once moved by one row, with the two border rows made up. -/
def band (z : ℤ) (r : ℕ) : ℝ :=
  ((1 / 2) * (if max z (-1) ≤ r ∧ (r : ℤ) ≤ min (z + 6) 127 then 1 else 0)
    + (1 / 2) * (if max z (-1) + 1 ≤ r ∧ (r : ℤ) ≤ min (z + 6) 127 + 1 then 1 else 0)
    + (1 / 2) * (if max z (-1) = -1 ∧ (r : ℤ) = 0 then 1 else 0)
    + (1 / 2) * (if min (z + 6) 127 = 127 ∧ (r : ℤ) = 127 then 1 else 0))
  * (if max z (-1) ≤ min (z + 6) 127 then 1 else 0) * 7⁻¹

theorem band_eq2 (u r : ℕ) : band ((u : ℤ) - 24) r = (band2 u r : ℝ) * (1 / 2) * 7⁻¹ := by
  unfold band band2
  have e0 : max ((u : ℤ) - 24) (-1) ≤ min ((u : ℤ) - 24 + 6) 127 ↔ max u 23 ≤ min (u + 6) 151 := by omega
  have e1 : (max ((u : ℤ) - 24) (-1) ≤ r ∧ (r : ℤ) ≤ min ((u : ℤ) - 24 + 6) 127)
      ↔ (max u 23 ≤ r + 24 ∧ r + 24 ≤ min (u + 6) 151) := by omega
  have e2 : (max ((u : ℤ) - 24) (-1) + 1 ≤ r ∧ (r : ℤ) ≤ min ((u : ℤ) - 24 + 6) 127 + 1)
      ↔ (max u 23 + 1 ≤ r + 24 ∧ r + 24 ≤ min (u + 6) 151 + 1) := by omega
  have e3 : (max ((u : ℤ) - 24) (-1) = -1 ∧ (r : ℤ) = 0) ↔ (max u 23 = 23 ∧ r = 0) := by omega
  have e4 : (min ((u : ℤ) - 24 + 6) 127 = 127 ∧ (r : ℤ) = 127) ↔ (min (u + 6) 151 = 151 ∧ r = 127) := by omega
  simp only [e0, e1, e2, e3, e4]
  by_cases h : max u 23 ≤ min (u + 6) 151
  · simp only [if_pos h]; push_cast; ring
  · simp only [if_neg h]; push_cast; ring

/-- The band is the bin's mean weight. -/
theorem band_eq_bin (z : ℤ) (hz : -24 ≤ z) (hz' : z < 146) (r : Fin 128) : band z r.val = bin z r.val := by
  obtain ⟨u, rfl⟩ : ∃ u : ℕ, z = (u : ℤ) - 24 := ⟨(z + 24).toNat, by omega⟩
  have h := band2_eq ⟨u, by omega⟩ r
  rw [band_eq2, ← h, bin, Fin.sum_univ_seven]
  have e : ∀ g : ℕ, tap ((u : ℤ) - 24 + (g : ℤ)) r.val = (tap2 (u + g) r.val : ℝ) * (1 / 2) := fun g => by
    rw [← tap_eq]; congr 1; push_cast; ring
  simp only [e]
  push_cast
  simp
  ring

end Cert.Proof.Crop

end
-- ==== Proof.Centre.lean ====
/- Centres and float words as integers: a rounded and clipped coordinate is an integer of the image, and the words the
   programs write denote the numbers they look like. -/
module

public import Idealize.ShloMosaic.PureOps.Ideal
public import Idealize.ShloMosaic.Lib.Pointwise

@[expose] public section

noncomputable section

namespace Cert.Proof.Crop

open Idealize.ShloMosaic

/-- An integer as an extended real. -/
def int (z : ℤ) : EReal := ((z : ℝ) : EReal)

/-! ## Words -/

theorem word_zero : Ideal.ofBits .f32 0x00000000#32 = int 0 := by
  simp [int, Ideal.ofBits, Ideal.ieee]
theorem word_127 : Ideal.ofBits .f32 0x42FE0000#32 = int 127 := by
  simp [int, Ideal.ofBits, Ideal.ieee, -EReal.coe_mul]; norm_num
theorem word_128 : Ideal.ofBits .f32 0x43000000#32 = int 128 := by
  simp [int, Ideal.ofBits, Ideal.ieee, -EReal.coe_mul]; norm_num
theorem word_24 : Ideal.ofBits .f32 0x41C00000#32 = int 24 := by
  simp [int, Ideal.ofBits, Ideal.ieee, -EReal.coe_mul]; norm_num
theorem word_49 : Ideal.ofBits .f32 0x42440000#32 = int 49 := by
  simp [int, Ideal.ofBits, Ideal.ieee, -EReal.coe_mul]; norm_num
theorem word_1 : Ideal.ofBits .f32 0x3F800000#32 = int 1 := by
  simp [int, Ideal.ofBits, Ideal.ieee, -EReal.coe_mul]; norm_num
theorem word_neg1 : Ideal.ofBits .f32 0xBF800000#32 = int (-1) := by
  simp [int, Ideal.ofBits, Ideal.ieee, -EReal.coe_mul]; norm_num
theorem word_6 : Ideal.ofBits .f32 0x40C00000#32 = int 6 := by
  simp [int, Ideal.ofBits, Ideal.ieee, -EReal.coe_mul]; norm_num
theorem word_7 : Ideal.ofBits .f32 0x40E00000#32 = int 7 := by
  simp [int, Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num

/-! ## Integers among extended reals -/

theorem int_le {a b : ℤ} : int a ≤ int b ↔ a ≤ b := by
  simp only [int, EReal.coe_le_coe_iff, Int.cast_le]
theorem int_lt {a b : ℤ} : int a < int b ↔ a < b := by
  simp only [int, EReal.coe_lt_coe_iff, Int.cast_lt]
theorem int_inj {a b : ℤ} : int a = int b ↔ a = b := by
  simp only [int, EReal.coe_eq_coe_iff, Int.cast_inj]
theorem int_add (a b : ℤ) : int a + int b = int (a + b) := by
  simp only [int, ← EReal.coe_add, Int.cast_add]
theorem int_sub (a b : ℤ) : int a - int b = int (a - b) := by
  simp only [int, ← EReal.coe_sub, Int.cast_sub]
theorem int_mul (a b : ℤ) : int a * int b = int (a * b) := by
  simp only [int, ← EReal.coe_mul, Int.cast_mul]
theorem int_max (a b : ℤ) : max (int a) (int b) = int (max a b) := by
  rcases le_total a b with h | h
  · rw [max_eq_right h, max_eq_right (int_le.2 h)]
  · rw [max_eq_left h, max_eq_left (int_le.2 h)]
theorem int_min (a b : ℤ) : min (int a) (int b) = int (min a b) := by
  rcases le_total a b with h | h
  · rw [min_eq_left h, min_eq_left (int_le.2 h)]
  · rw [min_eq_right h, min_eq_right (int_le.2 h)]

/-- A coordinate rounded to nearest, ties to even, and clipped to the image. -/
def clipped (v : EReal) : EReal := min (int 127) (max (int 0) (Ideal.liftRound Ideal.roundHalfEven v))

/-- It is an integer of the image, for every coordinate, an infinite one too. -/
theorem clipped_int (v : EReal) : ∃ k : ℤ, clipped v = int k ∧ 0 ≤ k ∧ k ≤ 127 := by
  unfold clipped
  induction v using EReal.rec with
  | bot => exact ⟨0, by show min (int 127) (max (int 0) (⊥ : EReal)) = int 0; rw [max_eq_left bot_le, int_min]; rfl, by norm_num, by norm_num⟩
  | top => exact ⟨127, by show min (int 127) (max (int 0) (⊤ : EReal)) = int 127; rw [max_eq_right le_top, min_eq_left le_top], by norm_num, by norm_num⟩
  | coe r =>
    refine ⟨min 127 (max 0 (Ideal.roundHalfEven r)), ?_, by omega, by omega⟩
    rw [← int_min, ← int_max]
    rfl

/-- The integer of a rounded and clipped coordinate. -/
def cell (v : EReal) : ℤ := (clipped_int v).choose

theorem clipped_eq (v : EReal) : clipped v = int (cell v) := (clipped_int v).choose_spec.1
theorem cell_nonneg (v : EReal) : 0 ≤ cell v := (clipped_int v).choose_spec.2.1
theorem cell_le (v : EReal) : cell v ≤ 127 := (clipped_int v).choose_spec.2.2

/-- A row number, as a word, read as a number. -/
theorem row_word {r : ℕ} (h : r < 2 ^ 31) :
    (FloatOps.sitofp (F := Ideal) FTy.f32 (BitVec.ofNat 32 r) : EReal) = int r := by
  show (((BitVec.ofNat 32 r).toInt : ℝ) : EReal) = _
  have e : (BitVec.ofNat 32 r).toInt = (r : ℤ) := by
    rw [BitVec.toInt_eq_toNat_cond, BitVec.toNat_ofNat]; split <;> omega
  rw [e]; rfl

theorem one_int : (1 : EReal) = int 1 := by simp [int]
theorem zero_int : (0 : EReal) = int 0 := by simp [int]

/-- A one-bit flag widened and read as a number. -/
theorem flag (p : Prop) [Decidable p] :
    (FloatOps.sitofp (F := Ideal) FTy.f32 (BitVec.setWidth 32 (BitVec.ofBool (decide p))) : EReal)
      = ((if p then 1 else 0 : ℝ) : EReal) := by
  show (((BitVec.setWidth 32 (BitVec.ofBool (decide p))).toInt : ℝ) : EReal) = _
  by_cases h : p <;> simp [h]

theorem flag_and (p q : Prop) [Decidable p] [Decidable q] :
    IntOp.andi (BitVec.ofBool (decide p)) (BitVec.ofBool (decide q)) = BitVec.ofBool (decide (p ∧ q)) := by
  unfold IntOp.andi
  by_cases hp : p <;> by_cases hq : q <;> simp [hp, hq]

/-- The distance of two numbers. -/
def dist (a b : EReal) : EReal := max (a - b) (-(a - b))

end Cert.Proof.Crop

end
-- ==== Proof.KernelBand.lean ====
/- The kernel's two matrices of row weights, read at an index: row `i` holds the closed form of the bin whose first
   sampling point is the integer that the base column holds at `i`. -/
module

public import proofs.«01_k».proof.Proof.Gen.KernelIdeal.Skeleton
public import proofs.«01_k».proof.Proof.Weights
public import proofs.«01_k».proof.Proof.Centre

@[expose] public section

noncomputable section

namespace Cert.Proof.Crop

open Cert.KernelIdeal Cert.KernelIdeal.Gen Idealize.ShloMosaic

/-- The named constant's value. -/
theorem seventh : Named.named (F := Ideal) (φ := .f32) Cert.KernelIdeal.κ "seventh" 0x3E124925#32 = ((7⁻¹ : ℝ) : EReal) :=
  IdealRules.named_const.ideal_named_scalar _ _ _ _ rfl

/-- The matrix of row weights from a column of bases, as the kernel computes it along `y`. -/
def bandY (base : FVec Ideal S84x1 .f32) : FVec Ideal S84x128 .f32 :=
  k0_pay15 (k0_pay11 base) (k0_pay12 (F := Ideal) k0_pay5 base) (k0_pay13 base) (k0_pay14 (F := Ideal) k0_pay5)

theorem bandY_apply (base : FVec Ideal S84x1 .f32) (i : Fin 84) (r : Fin 128) (z : ℤ) (h : base (ix2 i 0) = int z) :
    bandY base (ix2 i r) = ((band z r.val : ℝ) : EReal) := by
  pointwise [bandY, k0_pay15, k0_pay11, k0_pay12, k0_pay13, k0_pay14, k0_pay5, k0_pay9, k0_pay10]
  rw [h, seventh]
  have hr : FloatOps.sitofp (F := Ideal) FTy.f32 (BitVec.ofNat 32 r.val) = int r.val := row_word (by omega)
  simp only [hr, word_neg1, word_6, word_127, word_half, one_int, zero_int, int_max, int_min, int_add, int_le, int_inj,
    flag_and, flag, ← EReal.coe_mul, ← EReal.coe_add]
  rfl

/-- `t1`: each image row's features against the weights along `x`. -/
theorem pay21_eq (base : FVec Ideal S84x1 .f32) (f : FVec Ideal S1x128x128x128 .f32) (c h : Fin 128) (j : Fin 84) :
    k0_pay21 (F := Ideal) k0_pay5 (k0_pay17 base) (k0_pay18 base) (k0_pay19 k0_pay5 base) (k0_pay20 k0_pay5 base) f
      (ix2 ⟨c.val * 128 + h.val, by omega⟩ j) = ∑ w : Fin 128, f (ix4 0 c h w) * bandY base (ix2 j w) := by
  pointwise [bandY, k0_pay15, k0_pay11, k0_pay12, k0_pay13, k0_pay14, k0_pay5, k0_pay9, k0_pay10, k0_pay21, k0_pay17, k0_pay18, k0_pay16, k0_pay19, k0_pay20]

end Cert.Proof.Crop

end
-- ==== Proof.KernelBase.lean ====
/- The kernel's columns of bases, read at a row: the selector tables pick a landmark per box and a box per row. -/
module

public import proofs.«01_k».proof.Proof.Gen.KernelIdeal.Skeleton
public import proofs.«01_k».proof.Proof.Weights
public import proofs.«01_k».proof.Proof.Centre

@[expose] public section

noncomputable section

namespace Cert.Proof.Crop

open Cert.KernelIdeal Cert.KernelIdeal.Gen Idealize.ShloMosaic

/-- The landmark at the centre of each of the twelve boxes: six on the left of the face, six on the right. -/
def column : Fin 12 → Fin 68 := ![21, 19, 41, 38, 48, 31, 22, 24, 46, 43, 54, 35]

/-- What the four constant tables hold: `sel` picks a box's landmark and takes the difference of landmarks 22 and 25,
    `sel84` picks a row's box, `offs` is the row's place in the box. -/
structure Tables (sel : FVec Ideal S13x68 .f32) (sel84 : FVec Ideal S84x12 .f32) (offs : FVec Ideal S84x1 .f32) : Prop where
  pick : ∀ (i : Fin 12) (k : Fin 68), sel (ix2 (i.castLE (by norm_num)) k) = ((if k = column i then 1 else 0 : ℝ) : EReal)
  ruler : ∀ k : Fin 68, sel (ix2 12 k) = ((if k = 22 then 1 else if k = 25 then -1 else 0 : ℝ) : EReal)
  box : ∀ (i : Fin 12) (p : Fin 7) (k : Fin 12),
    sel84 (ix2 ⟨7 * i.val + p.val, by omega⟩ k) = ((if k = i then 1 else 0 : ℝ) : EReal)
  place : ∀ (i : Fin 12) (p : Fin 7), offs (ix2 ⟨7 * i.val + p.val, by omega⟩ 0) = int (7 * p.val)

/-- The two columns of a picked landmark matrix: row `i` of the first twelve is landmark `column i`. -/
theorem pay4_pick {sel : FVec Ideal S13x68 .f32} {sel84 offs} (T : Tables sel sel84 offs) (lm : FVec Ideal S1x2x68 .f32)
    (i : Fin 12) (d : Fin 2) : k0_pay4 lm sel (ix2 (i.castLE (by norm_num)) d) = lm (ix3 0 d (column i)) := by
  pointwise [k0_pay4]
  simp only [T.pick]
  exact sum_pick (fun k => lm (ix3 0 d k)) (column i)

/-- The last row's first column is the difference of landmarks 22 and 25. -/
theorem pay4_ruler {sel : FVec Ideal S13x68 .f32} {sel84 offs} (T : Tables sel sel84 offs) (lm : FVec Ideal S1x2x68 .f32) :
    k0_pay4 lm sel (ix2 12 0) = lm (ix3 0 0 22) - lm (ix3 0 0 25) := by
  pointwise [k0_pay4]
  simp only [T.ruler]
  rw [Finset.sum_eq_add (22 : Fin 68) 25 (by decide)
    (fun k _ h => by rw [if_neg h.1, if_neg h.2]; simp) (fun h => absurd (Finset.mem_univ _) h)
    (fun h => absurd (Finset.mem_univ _) h)]
  rw [if_pos rfl, if_neg (by decide), if_pos rfl]
  simp [sub_eq_add_neg]

/-- A column of boxes' corners, spread over the rows by the table and moved by the row's place. -/
def spread (sel84 : FVec Ideal S84x12 .f32) (offs : FVec Ideal S84x1 .f32) (g : Fin 12 → EReal) (i : Fin 84) : EReal :=
  (∑ x : Fin 12, sel84 (ix2 i x) * (min (Ideal.ofBits .f32 0x42FE0000#32)
    (max 0 (Ideal.liftRound Ideal.roundHalfEven (g x))) - Ideal.ofBits .f32 0x41C00000#32)) + offs (ix2 i 0)

/-- Row `p` of box `i` gets the box's rounded and clipped centre, less 24, and its place. -/
theorem spread_eq {sel : FVec Ideal S13x68 .f32} {sel84 offs} (T : Tables sel sel84 offs) (g : Fin 12 → EReal)
    (i : Fin 12) (p : Fin 7) :
    spread sel84 offs g ⟨7 * i.val + p.val, by omega⟩ = int (cell (g i) - 24 + 7 * p.val) := by
  unfold spread
  simp only [T.box, T.place]
  rw [sum_pick (fun x : Fin 12 => min (Ideal.ofBits FTy.f32 0x42FE0000#32)
    (max 0 (Ideal.liftRound Ideal.roundHalfEven (g x))) - Ideal.ofBits FTy.f32 0x41C00000#32) i,
    word_127, word_24, zero_int, ← int_add, ← int_sub, ← clipped_eq]
  rfl

/-- The column of bases along `y` as such a spread. -/
theorem pay6_spread (lm : FVec Ideal S1x2x68 .f32) (sel : FVec Ideal S13x68 .f32) (scales : FVec Ideal S12x1 .f32)
    (sel84 : FVec Ideal S84x12 .f32) (offs : FVec Ideal S84x1 .f32) (i : Fin 84) :
    k0_pay6 (F := Ideal) lm sel scales sel84 offs (ix2 i 0) = spread sel84 offs (fun x =>
      k0_pay4 (F := Ideal) lm sel (ix2 (x.castLE (by norm_num)) 1) + FloatOps.absf (k0_pay4 (F := Ideal) lm sel (ix2 12 0)) * scales (ix2 x 0)) i := by
  pointwise [k0_pay6, spread]
  rfl

/-- The column of bases along `x` as such a spread. -/
theorem pay8_spread (lm : FVec Ideal S1x2x68 .f32) (sel : FVec Ideal S13x68 .f32)
    (sel84 : FVec Ideal S84x12 .f32) (offs : FVec Ideal S84x1 .f32) (i : Fin 84) :
    k0_pay8 (F := Ideal) (k0_pay7 lm sel sel84) offs (ix2 i 0) = spread sel84 offs (fun x =>
      k0_pay4 (F := Ideal) lm sel (ix2 (x.castLE (by norm_num)) 0)) i := by
  pointwise [k0_pay8, k0_pay7, spread]
  rfl

/-- The base of row `p` of box `i` along `y`. -/
theorem pay6_apply {sel : FVec Ideal S13x68 .f32} {sel84 offs} (T : Tables sel sel84 offs) (lm : FVec Ideal S1x2x68 .f32)
    (scales : FVec Ideal S12x1 .f32) (i : Fin 12) (p : Fin 7) :
    k0_pay6 (F := Ideal) lm sel scales sel84 offs (ix2 ⟨7 * i.val + p.val, by omega⟩ 0)
      = int (cell (lm (ix3 0 1 (column i)) + dist (lm (ix3 0 0 22)) (lm (ix3 0 0 25)) * scales (ix2 i 0)) - 24 + 7 * p.val) := by
  rw [pay6_spread, spread_eq T, pay4_pick T, pay4_ruler T]
  rfl

/-- The base of row `p` of box `i` along `x`. -/
theorem pay8_apply {sel : FVec Ideal S13x68 .f32} {sel84 offs} (T : Tables sel sel84 offs) (lm : FVec Ideal S1x2x68 .f32)
    (i : Fin 12) (p : Fin 7) :
    k0_pay8 (F := Ideal) (k0_pay7 lm sel sel84) offs (ix2 ⟨7 * i.val + p.val, by omega⟩ 0)
      = int (cell (lm (ix3 0 0 (column i))) - 24 + 7 * p.val) := by
  rw [pay8_spread, spread_eq T, pay4_pick T]

end Cert.Proof.Crop

end
-- ==== Proof.Spec.lean ====
/- What both programs compute of one channel of one image. -/
module

public import proofs.«01_k».proof.Proof.Weights
public import proofs.«01_k».proof.Proof.Centre

@[expose] public section

noncomputable section

open Idealize.ShloMosaic

namespace Cert.Proof.Crop

/-- One bin of one channel: the mean over the bin's seven by seven sample points of the bilinear value there, as one
    weighted sum over the image. The bin's first sample point lies in the cell `(zy, zx)`. -/
def pooled (f : Fin 128 → Fin 128 → EReal) (zy zx : ℤ) : EReal :=
  ∑ r : Fin 128, ∑ s : Fin 128, ((bin zy r.val * bin zx s.val : ℝ) : EReal) * f r s

/-- The kernel's two products are that weighted sum. -/
theorem bands_eq_pooled (f : Fin 128 → Fin 128 → EReal) (zy zx : ℤ) (hy : -24 ≤ zy) (hy' : zy < 146) (hx : -24 ≤ zx)
    (hx' : zx < 146) :
    ∑ r : Fin 128, ((band zy r.val : ℝ) : EReal) * ∑ s : Fin 128, f r s * ((band zx s.val : ℝ) : EReal)
      = pooled f zy zx := by
  unfold pooled
  refine Finset.sum_congr rfl fun r _ => ?_
  rw [band_eq_bin zy hy hy' r, coe_mul_sum _ (bin_nonneg _ _)]
  refine Finset.sum_congr rfl fun s _ => ?_
  rw [band_eq_bin zx hx hx' s, mul_comm (f r s), ← mul_assoc, ← EReal.coe_mul]

/-- The word of box `k`'s share of the ruler's length, which moves its centre down. -/
def share : Fin 6 → BitVec 32 :=
  ![0x3F000000#32, 0xBF000000#32, 0x00000000#32, 0x3E800000#32, 0xBE800000#32, 0x3EA8F5C3#32]

/-- The first row's cell of a box of 49 by 49 pixels about landmark `n`, moved down by the share `s` of the distance across
    from landmark 22 to landmark 25. -/
def top (lm : Fin 2 → Fin 68 → EReal) (n : Fin 68) (s : EReal) : ℤ :=
  cell (lm 1 n + dist (lm 0 22) (lm 0 25) * s) - 24

/-- The first column's cell of the box. -/
def left (lm : Fin 2 → Fin 68 → EReal) (n : Fin 68) : ℤ := cell (lm 0 n) - 24

theorem top_ge (lm n s) : -24 ≤ top lm n s := by have := cell_nonneg (lm 1 n + dist (lm 0 22) (lm 0 25) * s); unfold top; omega
theorem top_le (lm n s) : top lm n s ≤ 103 := by have := cell_le (lm 1 n + dist (lm 0 22) (lm 0 25) * s); unfold top; omega
theorem left_ge (lm n) : -24 ≤ left lm n := by have := cell_nonneg (lm 0 n); unfold left; omega
theorem left_le (lm n) : left lm n ≤ 103 := by have := cell_le (lm 0 n); unfold left; omega

/-- The seven by seven bins of the box of landmark `n`: one channel. -/
def box (f : Fin 128 → Fin 128 → EReal) (lm : Fin 2 → Fin 68 → EReal) (n : Fin 68) (s : EReal) (p q : Fin 7) : EReal :=
  pooled f (top lm n s + 7 * p.val) (left lm n + 7 * q.val)

/-- One result: six boxes of each of eight images, about the landmarks `cols`. -/
def crops (cols : Fin 6 → Fin 68) (x : Fin 8 → Fin 128 → Fin 128 → Fin 128 → EReal) (lm : Fin 8 → Fin 2 → Fin 68 → EReal)
    (n : Fin 48) (ch : Fin 128) (p q : Fin 7) : EReal :=
  box (x ⟨n.val / 6, by omega⟩ ch) (lm ⟨n.val / 6, by omega⟩) (cols ⟨n.val % 6, by omega⟩)
    (Ideal.ofBits .f32 (share ⟨n.val % 6, by omega⟩)) p q

/-- The landmarks of the left side's boxes. -/
def leftCols : Fin 6 → Fin 68 := ![21, 19, 41, 38, 48, 31]
/-- The landmarks of the right side's boxes. -/
def rightCols : Fin 6 → Fin 68 := ![22, 24, 46, 43, 54, 35]

end Cert.Proof.Crop

end
-- ==== Proof.KernelBlock.lean ====
/- What one grid point of the kernel writes: the block of each output is cut out of the product of the two matrices of
   row weights with the image of the point, box by box along the product's diagonal. -/
module

public import proofs.«01_k».proof.Proof.Gen.KernelIdeal.Value
public import proofs.«01_k».proof.Proof.KernelBand
public import proofs.«01_k».proof.Proof.KernelBase
public import proofs.«01_k».proof.Proof.Spec

@[expose] public section

noncomputable section

namespace Cert.Proof.Crop

open Cert.KernelIdeal Cert.KernelIdeal.Gen Idealize.ShloMosaic Idealize.ShloMosaic.TcCoe Idealize.SL.Sem

/-- The image times the rows' weights along `x`, as the kernel leaves it in its first scratch. -/
def timesX (base : FVec Ideal S84x1 .f32) (f : FVec Ideal S1x128x128x128 .f32) : FVec Ideal S16384x84 .bf16 :=
  k0_pay21 (F := Ideal) (k0_pay5 (F := Ideal)) (k0_pay17 (F := Ideal) base) (k0_pay18 (F := Ideal) base)
    (k0_pay19 (F := Ideal) (k0_pay5 (F := Ideal)) base) (k0_pay20 (F := Ideal) (k0_pay5 (F := Ideal)) base) f

/-- The product of the rows' weights along `y` and `x` with the image, as the kernel leaves it in its second scratch. -/
def product (sel : FVec Ideal S13x68 .f32) (scales : FVec Ideal S12x1 .f32) (sel84 : FVec Ideal S84x12 .f32)
    (offs : FVec Ideal S84x1 .f32) (lm : FVec Ideal S1x2x68 .f32) (f : FVec Ideal S1x128x128x128 .f32) :
    FVec Ideal S128x84x84 .bf16 :=
  k0_pay22 (F := Ideal) (bandY (k0_pay6 (F := Ideal) lm sel scales sel84 offs))
    (timesX (k0_pay8 (F := Ideal) (k0_pay7 (F := Ideal) lm sel sel84) offs) f)

/-- The product at an index: the sum over the image's rows and columns of the image under both rows' weights. -/
theorem product_apply (sel : FVec Ideal S13x68 .f32) (scales : FVec Ideal S12x1 .f32) (sel84 : FVec Ideal S84x12 .f32)
    (offs : FVec Ideal S84x1 .f32) (lm : FVec Ideal S1x2x68 .f32) (f : FVec Ideal S1x128x128x128 .f32) (ch : Fin 128)
    (i j : Fin 84) :
    product sel scales sel84 offs lm f (ix3 ch i j)
      = ∑ h : Fin 128, bandY (k0_pay6 (F := Ideal) lm sel scales sel84 offs) (ix2 i h)
          * ∑ w : Fin 128, f (ix4 0 ch h w) * bandY (k0_pay8 (F := Ideal) (k0_pay7 (F := Ideal) lm sel sel84) offs) (ix2 j w) := by
  simp only [← pay21_eq]
  pointwise [product, k0_pay22, timesX]

/-- The product on box `i`'s rows and columns is the box's bins. -/
theorem product_box {sel : FVec Ideal S13x68 .f32} {sel84 offs} (T : Tables sel sel84 offs) (scales : FVec Ideal S12x1 .f32)
    (lm : FVec Ideal S1x2x68 .f32) (f : FVec Ideal S1x128x128x128 .f32) (ch : Fin 128) (i : Fin 12) (p q : Fin 7) :
    product sel scales sel84 offs lm f (ix3 ch ⟨7 * i.val + p.val, by omega⟩ ⟨7 * i.val + q.val, by omega⟩)
      = box (fun r s => f (ix4 0 ch r s)) (fun d n => lm (ix3 0 d n)) (column i) (scales (ix2 i 0)) p q := by
  rw [product_apply]
  simp only [bandY_apply _ _ _ _ (pay6_apply T lm scales i p), bandY_apply _ _ _ _ (pay8_apply T lm i q)]
  have h1 := top_ge (fun d n => lm (ix3 0 d n)) (column i) (scales (ix2 i 0))
  have h2 := top_le (fun d n => lm (ix3 0 d n)) (column i) (scales (ix2 i 0))
  have h3 := left_ge (fun d n => lm (ix3 0 d n)) (column i)
  have h4 := left_le (fun d n => lm (ix3 0 d n)) (column i)
  unfold top at h1 h2
  unfold left at h3 h4
  beta_reduce at h1 h2 h3 h4
  exact bands_eq_pooled _ _ _ (by omega) (by omega) (by omega) (by omega)

/-- A row of the box `k + d` is a row of the product. -/
theorem diagonal_lt {d : ℕ} (hd : d ≤ 6) (k : Fin 6) (p : Fin 7) : 7 * (k.val + d) + p.val < 84 := by omega

/-- The blocks on the product's diagonal from box `d` on: box `k`'s block is rows and columns `7 (k + d)` to
    `7 (k + d) + 6`. -/
def diagonal (T : FVec Ideal S128x84x84 .bf16) (d : ℕ) (hd : d ≤ 6) : Vec Ideal S6x128x7x7 .f32 := fun y =>
  T (ix3 (y 1 : Fin 128)
    ⟨7 * ((y 0 : Fin 6).val + d) + (y 2 : Fin 7).val, diagonal_lt hd (y 0 : Fin 6) (y 2 : Fin 7)⟩
    ⟨7 * ((y 0 : Fin 6).val + d) + (y 3 : Fin 7).val, diagonal_lt hd (y 0 : Fin 6) (y 3 : Fin 7)⟩)

/-- A stored block at an index is the loaded block there, whatever the length-one axis. -/
theorem pay23_apply (v : FVec Ideal S128x7x7 .bf16) (x : S1x128x7x7.Idx) :
    k0_pay23 (F := Ideal) v x = v (ix3 (x 1 : Fin 128) (x 2 : Fin 7) (x 3 : Fin 7)) := by
  obtain ⟨a, b, p, q, rfl⟩ : ∃ (a : Fin 1) (b : Fin 128) (p q : Fin 7), x = ix4 a b p q :=
    ⟨x 0, x 1, x 2, x 3, funext fun a => by match a with | ⟨0, _⟩ | ⟨1, _⟩ | ⟨2, _⟩ | ⟨3, _⟩ => rfl⟩
  pointwise [k0_pay23]

/-- One store of a block: what is loaded from the product at `(0, o, o)` and stored at box `k` is the diagonal block. -/
theorem piece_eq (T : FVec Ideal S128x84x84 .bf16) (d : ℕ) (hd : d ≤ 6) (k o : ℕ) (ho : o = 7 * (k + d))
    (inb : ∀ a, (![0, o, o] : Fin 3 → ℕ) a + S128x7x7.size a ≤ S128x84x84.size a)
    (inb' : ∀ a, (![k, 0, 0, 0] : Fin 4 → ℕ) a + S1x128x7x7.size a ≤ S6x128x7x7.size a) (x : S1x128x7x7.Idx) :
    k0_pay23 (F := Ideal) (fun j => T ((Rect.unit (s := S128x84x84) ![0, o, o] S128x7x7.size inb).toLoadRect.idx j)) x
      = diagonal T d hd ((Rect.unit (s := S6x128x7x7) ![k, 0, 0, 0] S1x128x7x7.size inb').emb x) := by
  rw [pay23_apply]
  refine congrArg T (funext fun a => Fin.ext ?_)
  have h0 : (x 0).val < 1 := (x 0).isLt
  match a with
  | ⟨0, _⟩ => show 0 + 1 * (x 1).val = 0 + 1 * (x 1).val; rfl
  | ⟨1, _⟩ => show o + 1 * (x 2).val = 7 * (k + 1 * (x 0).val + d) + (0 + 1 * (x 2).val); omega
  | ⟨2, _⟩ => show o + 1 * (x 3).val = 7 * (k + 1 * (x 0).val + d) + (0 + 1 * (x 3).val); omega

/-- Output 7's block of a grid point. -/
theorem out7_eq (c : Dev nD) (i : grid0.Coords) (arg1 : Memref sig .tc .vmem S13x68 .f32) (harg1 : arg1.IsWhole) (arg2 : Memref sig .tc .vmem S12x1 .f32) (harg2 : arg2.IsWhole) (arg3 : Memref sig .tc .vmem S84x12 .f32) (harg3 : arg3.IsWhole) (arg4 : Memref sig .tc .vmem S84x1 .f32) (harg4 : arg4.IsWhole) (arg5 : Memref sig .tc .vmem S84x7 .f32) (harg5 : arg5.IsWhole) (arg6 : Memref sig .tc .vmem S1x2x68 .f32) (harg6 : arg6.IsWhole) (arg7 : Memref sig .tc .vmem S1x128x128x128 .f32) (harg7 : arg7.IsWhole) (arg8 : Memref sig .tc .vmem S6x128x7x7 .f32) (harg8 : arg8.IsWhole) (arg9 : Memref sig .tc .vmem S6x128x7x7 .f32) (harg9 : arg9.IsWhole) (arg10 : Memref sig .tc .vmem S16384x84 .bf16) (harg10 : arg10.IsWhole) (arg11 : Memref sig .tc .vmem S128x84x84 .bf16) (harg11 : arg11.IsWhole)
    (x0 : Vec Ideal S13x68 .f32) (x1 : Vec Ideal S12x1 .f32) (x2 : Vec Ideal S84x12 .f32) (x3 : Vec Ideal S84x1 .f32) (x4 : Vec Ideal S84x7 .f32) (x5 : Vec Ideal S1x2x68 .f32) (x6 : Vec Ideal S1x128x128x128 .f32) :
    out0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 = diagonal (product x0 x1 x2 x3 x5 x6) 0 (by omega) := by
  have z2 : (![0, 0] : Fin 2 → ℕ) = fun _ => 0 := funext fun a => by fin_cases a <;> rfl
  have z3 : (![0, 0, 0] : Fin 3 → ℕ) = fun _ => 0 := funext fun a => by fin_cases a <;> rfl
  have z4 : (![0, 0, 0, 0] : Fin 4 → ℕ) = fun _ => 0 := funext fun a => by fin_cases a <;> rfl
  funext y
  have hc := cover0_A_7 (F := Ideal) c i arg1 harg1 arg2 harg2 arg3 harg3 arg4 harg4 arg5 harg5 arg6 harg6 arg7 harg7 arg8 harg8 arg9 harg9 arg10 harg10 arg11 harg11 x0 x1 x2 x3 x4 x5 x6 y
  unfold out0_A_7
  rw [View.read_writes_junk_eq_canon]
  refine View.canon_apply_of_pieces _ _ ?_ y hc
  unfold kernelRun0_A
  dsimp only
  sl_unfold_words
  simp only [View.readAt_eq_ld, harg1.read_unread, harg2.read_unread, harg3.read_unread, harg4.read_unread,
    harg6.read_unread, harg7.read_unread, View.ld_unit_zero (S := S13x68) z2, View.ld_unit_zero (S := S12x1) z2,
    View.ld_unit_zero (S := S84x12) z2, View.ld_unit_zero (S := S84x1) z2, View.ld_unit_zero (S := S1x2x68) z3,
    View.ld_unit_zero (S := S1x128x128x128) z4, View.readCov_unit_zero (S := S16384x84) _ z2,
    View.readCov_eq_canon', View.canon_unit_zero (S := S128x84x84) z3]
  simp only [List.forall_mem_cons]
  exact ⟨piece_eq (product x0 x1 x2 x3 x5 x6) 0 (by omega) 5 35 (by omega) _ _,
    piece_eq (product x0 x1 x2 x3 x5 x6) 0 (by omega) 4 28 (by omega) _ _,
    piece_eq (product x0 x1 x2 x3 x5 x6) 0 (by omega) 3 21 (by omega) _ _,
    piece_eq (product x0 x1 x2 x3 x5 x6) 0 (by omega) 2 14 (by omega) _ _,
    piece_eq (product x0 x1 x2 x3 x5 x6) 0 (by omega) 1 7 (by omega) _ _,
    piece_eq (product x0 x1 x2 x3 x5 x6) 0 (by omega) 0 0 (by omega) _ _,
    fun p hp => absurd hp List.not_mem_nil⟩

/-- Output 8's block of a grid point. -/
theorem out8_eq (c : Dev nD) (i : grid0.Coords) (arg1 : Memref sig .tc .vmem S13x68 .f32) (harg1 : arg1.IsWhole) (arg2 : Memref sig .tc .vmem S12x1 .f32) (harg2 : arg2.IsWhole) (arg3 : Memref sig .tc .vmem S84x12 .f32) (harg3 : arg3.IsWhole) (arg4 : Memref sig .tc .vmem S84x1 .f32) (harg4 : arg4.IsWhole) (arg5 : Memref sig .tc .vmem S84x7 .f32) (harg5 : arg5.IsWhole) (arg6 : Memref sig .tc .vmem S1x2x68 .f32) (harg6 : arg6.IsWhole) (arg7 : Memref sig .tc .vmem S1x128x128x128 .f32) (harg7 : arg7.IsWhole) (arg8 : Memref sig .tc .vmem S6x128x7x7 .f32) (harg8 : arg8.IsWhole) (arg9 : Memref sig .tc .vmem S6x128x7x7 .f32) (harg9 : arg9.IsWhole) (arg10 : Memref sig .tc .vmem S16384x84 .bf16) (harg10 : arg10.IsWhole) (arg11 : Memref sig .tc .vmem S128x84x84 .bf16) (harg11 : arg11.IsWhole)
    (x0 : Vec Ideal S13x68 .f32) (x1 : Vec Ideal S12x1 .f32) (x2 : Vec Ideal S84x12 .f32) (x3 : Vec Ideal S84x1 .f32) (x4 : Vec Ideal S84x7 .f32) (x5 : Vec Ideal S1x2x68 .f32) (x6 : Vec Ideal S1x128x128x128 .f32) :
    out0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 = diagonal (product x0 x1 x2 x3 x5 x6) 6 (by omega) := by
  have z2 : (![0, 0] : Fin 2 → ℕ) = fun _ => 0 := funext fun a => by fin_cases a <;> rfl
  have z3 : (![0, 0, 0] : Fin 3 → ℕ) = fun _ => 0 := funext fun a => by fin_cases a <;> rfl
  have z4 : (![0, 0, 0, 0] : Fin 4 → ℕ) = fun _ => 0 := funext fun a => by fin_cases a <;> rfl
  funext y
  have hc := cover0_A_8 (F := Ideal) c i arg1 harg1 arg2 harg2 arg3 harg3 arg4 harg4 arg5 harg5 arg6 harg6 arg7 harg7 arg8 harg8 arg9 harg9 arg10 harg10 arg11 harg11 x0 x1 x2 x3 x4 x5 x6 y
  unfold out0_A_8
  rw [View.read_writes_junk_eq_canon]
  refine View.canon_apply_of_pieces _ _ ?_ y hc
  unfold kernelRun0_A
  dsimp only
  sl_unfold_words
  simp only [View.readAt_eq_ld, harg1.read_unread, harg2.read_unread, harg3.read_unread, harg4.read_unread,
    harg6.read_unread, harg7.read_unread, View.ld_unit_zero (S := S13x68) z2, View.ld_unit_zero (S := S12x1) z2,
    View.ld_unit_zero (S := S84x12) z2, View.ld_unit_zero (S := S84x1) z2, View.ld_unit_zero (S := S1x2x68) z3,
    View.ld_unit_zero (S := S1x128x128x128) z4, View.readCov_unit_zero (S := S16384x84) _ z2,
    View.readCov_eq_canon', View.canon_unit_zero (S := S128x84x84) z3]
  simp only [List.forall_mem_cons]
  exact ⟨piece_eq (product x0 x1 x2 x3 x5 x6) 6 (by omega) 5 77 (by omega) _ _,
    piece_eq (product x0 x1 x2 x3 x5 x6) 6 (by omega) 4 70 (by omega) _ _,
    piece_eq (product x0 x1 x2 x3 x5 x6) 6 (by omega) 3 63 (by omega) _ _,
    piece_eq (product x0 x1 x2 x3 x5 x6) 6 (by omega) 2 56 (by omega) _ _,
    piece_eq (product x0 x1 x2 x3 x5 x6) 6 (by omega) 1 49 (by omega) _ _,
    piece_eq (product x0 x1 x2 x3 x5 x6) 6 (by omega) 0 42 (by omega) _ _,
    fun p hp => absurd hp List.not_mem_nil⟩

end Cert.Proof.Crop

end
-- ==== Proof.KernelTables.lean ====
/- The constant tables the kernel is launched with are the tables its base coordinates are read off. -/
module

public import proofs.«01_k».proof.Proof.KernelBase

@[expose] public section

noncomputable section

namespace Cert.Proof.Crop

open Idealize.ShloMosaic Idealize.ShloMosaic.TcCoe Cert.KernelIdeal Cert.KernelIdeal.Gen

/-- The words of the landmark table, row by row. -/
theorem pick_word : ∀ (i : Fin 12) (k : Fin 68),
    lit0 (S13x68.rowMajor (ix2 (i.castLE (by norm_num)) k)) = if k = column i then 0x3F800000#32 else 0x00000000#32 := by
  decide +kernel
/-- The words of the landmark table's last row. -/
theorem ruler_word : ∀ k : Fin 68, lit0 (S13x68.rowMajor (ix2 12 k))
    = if k = 22 then 0x3F800000#32 else if k = 25 then 0xBF800000#32 else 0x00000000#32 := by
  decide +kernel
/-- The words of the table that spreads the boxes over the rows. -/
theorem box_word : ∀ (i : Fin 12) (p : Fin 7) (k : Fin 12),
    lit2 (S84x12.rowMajor (ix2 ⟨7 * i.val + p.val, by omega⟩ k)) = if k = i then 0x3F800000#32 else 0x00000000#32 := by
  decide +kernel
/-- The words of the rows' places in their boxes. -/
theorem place_word : ∀ (i : Fin 12) (p : Fin 7), lit3 (S84x1.rowMajor (ix2 ⟨7 * i.val + p.val, by omega⟩ 0))
    = (![0x00000000#32, 0x40E00000#32, 0x41600000#32, 0x41A80000#32, 0x41E00000#32, 0x420C0000#32, 0x42280000#32] :
        Fin 7 → BitVec 32) p := by
  decide +kernel

/-- A place's word is seven times its row's number. -/
theorem place_value (p : Fin 7) : Ideal.ofBits .f32
    ((![0x00000000#32, 0x40E00000#32, 0x41600000#32, 0x41A80000#32, 0x41E00000#32, 0x420C0000#32, 0x42280000#32] :
        Fin 7 → BitVec 32) p) = int (7 * p.val) := by
  fin_cases p <;> simp [int, Ideal.ofBits, Ideal.ieee, -EReal.coe_mul] <;> norm_num

/-- The kernel's constant tables. -/
theorem tables : Tables (fun i => FloatOps.ofBits (F := Ideal) .f32 (lit0 (S13x68.rowMajor i)))
    (fun i => FloatOps.ofBits (F := Ideal) .f32 (lit2 (S84x12.rowMajor i)))
    (fun i => FloatOps.ofBits (F := Ideal) .f32 (lit3 (S84x1.rowMajor i))) where
  pick i k := by
    show Ideal.ofBits .f32 (lit0 (S13x68.rowMajor _)) = _
    rw [pick_word]
    split
    · rw [word_1]; simp [int]
    · rw [word_zero]; simp [int]
  ruler k := by
    show Ideal.ofBits .f32 (lit0 (S13x68.rowMajor _)) = _
    rw [ruler_word]
    split
    · rw [word_1]; simp [int]
    · split
      · rw [word_neg1]; simp [int]
      · rw [word_zero]; simp [int]
  box i p k := by
    show Ideal.ofBits .f32 (lit2 (S84x12.rowMajor _)) = _
    rw [box_word]
    split
    · rw [word_1]; simp [int]
    · rw [word_zero]; simp [int]
  place i p := by
    show Ideal.ofBits .f32 (lit3 (S84x1.rowMajor _)) = _
    rw [place_word, place_value]

/-- The word of box `k`'s share of the ruler's length, for either side's six boxes. -/
theorem scale_word : ∀ k : Fin 6, lit1 (S12x1.rowMajor (ix2 (k.castLE (by norm_num)) 0))
      = (![0x3F000000#32, 0xBF000000#32, 0x00000000#32, 0x3E800000#32, 0xBE800000#32, 0x3EA8F5C3#32] : Fin 6 → BitVec 32) k
    ∧ lit1 (S12x1.rowMajor (ix2 (k.natAdd 6) 0))
      = (![0x3F000000#32, 0xBF000000#32, 0x00000000#32, 0x3E800000#32, 0xBE800000#32, 0x3EA8F5C3#32] : Fin 6 → BitVec 32) k := by
  decide +kernel

end Cert.Proof.Crop

end
-- ==== Proof.KernelRun.lean ====
/- What the kernel leaves in its two result arrays. -/
module

public import proofs.«01_k».proof.Proof.KernelBlock
public import proofs.«01_k».proof.Proof.KernelTables

@[expose] public section

noncomputable section

namespace Cert.Proof.Crop

open Idealize.ShloMosaic Idealize.ShloMosaic.TcCoe Idealize.SL.Sem Cert.KernelIdeal Cert.KernelIdeal.Gen Cert.KernelIdeal.Value

variable (m : (ℓ : Loc nD τ sig) → Buf (Elt Ideal) ℓ) (ρ : Dev nD → PrngReg)

/-! ## The tables as the launch finds them -/

theorem V_sel (c : Dev nD) : V m c main_call0_cst = fun i => FloatOps.ofBits (F := Ideal) .f32 (lit0 (S13x68.rowMajor i)) := by
  show StableHlo.after hostOps0 _ (Proc.devRef .tc main_call0_cst) = _
  after_results
  rfl
theorem V_scales (c : Dev nD) : V m c main_call0_cst_0 = fun i => FloatOps.ofBits (F := Ideal) .f32 (lit1 (S12x1.rowMajor i)) := by
  show StableHlo.after hostOps0 _ (Proc.devRef .tc main_call0_cst_0) = _
  after_results
  rfl
theorem V_sel84 (c : Dev nD) : V m c main_call0_cst_1 = fun i => FloatOps.ofBits (F := Ideal) .f32 (lit2 (S84x12.rowMajor i)) := by
  show StableHlo.after hostOps0 _ (Proc.devRef .tc main_call0_cst_1) = _
  after_results
  rfl
theorem V_offs (c : Dev nD) : V m c main_call0_cst_2 = fun i => FloatOps.ofBits (F := Ideal) .f32 (lit3 (S84x1.rowMajor i)) := by
  show StableHlo.after hostOps0 _ (Proc.devRef .tc main_call0_cst_2) = _
  after_results
  rfl

/-! ## The blocks of the windows -/

theorem index0 : ∀ t : Fin cfg0.N, win0_0.index t (0 : Fin 2) = 0 ∧ win0_0.index t (1 : Fin 2) = 0 :=
  (by decide +kernel : ∀ t : Fin grid0.N, _)
theorem index1 : ∀ t : Fin cfg0.N, win0_1.index t (0 : Fin 2) = 0 ∧ win0_1.index t (1 : Fin 2) = 0 :=
  (by decide +kernel : ∀ t : Fin grid0.N, _)
theorem index2 : ∀ t : Fin cfg0.N, win0_2.index t (0 : Fin 2) = 0 ∧ win0_2.index t (1 : Fin 2) = 0 :=
  (by decide +kernel : ∀ t : Fin grid0.N, _)
theorem index3 : ∀ t : Fin cfg0.N, win0_3.index t (0 : Fin 2) = 0 ∧ win0_3.index t (1 : Fin 2) = 0 :=
  (by decide +kernel : ∀ t : Fin grid0.N, _)
theorem index5 : ∀ t : Fin cfg0.N, win0_5.index t (0 : Fin 3) = t.val ∧ win0_5.index t (1 : Fin 3) = 0
    ∧ win0_5.index t (2 : Fin 3) = 0 := (by decide +kernel : ∀ t : Fin grid0.N, _)
theorem index6 : ∀ t : Fin cfg0.N, win0_6.index t (0 : Fin 4) = t.val ∧ win0_6.index t (1 : Fin 4) = 0
    ∧ win0_6.index t (2 : Fin 4) = 0 ∧ win0_6.index t (3 : Fin 4) = 0 := (by decide +kernel : ∀ t : Fin grid0.N, _)
theorem index7 : ∀ t : Fin cfg0.N, win0_7.index t (0 : Fin 4) = t.val ∧ win0_7.index t (1 : Fin 4) = 0
    ∧ win0_7.index t (2 : Fin 4) = 0 ∧ win0_7.index t (3 : Fin 4) = 0 := (by decide +kernel : ∀ t : Fin grid0.N, _)
theorem index8 : ∀ t : Fin cfg0.N, win0_8.index t (0 : Fin 4) = t.val ∧ win0_8.index t (1 : Fin 4) = 0
    ∧ win0_8.index t (2 : Fin 4) = 0 ∧ win0_8.index t (3 : Fin 4) = 0 := (by decide +kernel : ∀ t : Fin grid0.N, _)

/-- Every point sees the landmark table whole. -/
theorem iblk0_eq (c : Dev nD) (t : Fin cfg0.N) : iblk m c 0 t = V m c main_call0_cst := by
  funext j
  show V m c main_call0_cst (((cfg0.win 0).blk t).view.emb j) = _
  obtain ⟨e0, e1⟩ := index0 t
  refine congrArg _ (funext fun a => Fin.ext ?_)
  match a with
  | ⟨0, _⟩ => show win0_0.index t (0 : Fin 2) * 13 + 1 * (j 0).val = (j 0).val; omega
  | ⟨1, _⟩ => show win0_0.index t (1 : Fin 2) * 68 + 1 * (j 1).val = (j 1).val; omega
/-- Every point sees the shares whole. -/
theorem iblk1_eq (c : Dev nD) (t : Fin cfg0.N) : iblk m c 1 t = V m c main_call0_cst_0 := by
  funext j
  show V m c main_call0_cst_0 (((cfg0.win 1).blk t).view.emb j) = _
  obtain ⟨e0, e1⟩ := index1 t
  refine congrArg _ (funext fun a => Fin.ext ?_)
  match a with
  | ⟨0, _⟩ => show win0_1.index t (0 : Fin 2) * 12 + 1 * (j 0).val = (j 0).val; omega
  | ⟨1, _⟩ => show win0_1.index t (1 : Fin 2) * 1 + 1 * (j 1).val = (j 1).val; omega
/-- Every point sees the boxes' table whole. -/
theorem iblk2_eq (c : Dev nD) (t : Fin cfg0.N) : iblk m c 2 t = V m c main_call0_cst_1 := by
  funext j
  show V m c main_call0_cst_1 (((cfg0.win 2).blk t).view.emb j) = _
  obtain ⟨e0, e1⟩ := index2 t
  refine congrArg _ (funext fun a => Fin.ext ?_)
  match a with
  | ⟨0, _⟩ => show win0_2.index t (0 : Fin 2) * 84 + 1 * (j 0).val = (j 0).val; omega
  | ⟨1, _⟩ => show win0_2.index t (1 : Fin 2) * 12 + 1 * (j 1).val = (j 1).val; omega
/-- Every point sees the rows' places whole. -/
theorem iblk3_eq (c : Dev nD) (t : Fin cfg0.N) : iblk m c 3 t = V m c main_call0_cst_2 := by
  funext j
  show V m c main_call0_cst_2 (((cfg0.win 3).blk t).view.emb j) = _
  obtain ⟨e0, e1⟩ := index3 t
  refine congrArg _ (funext fun a => Fin.ext ?_)
  match a with
  | ⟨0, _⟩ => show win0_3.index t (0 : Fin 2) * 84 + 1 * (j 0).val = (j 0).val; omega
  | ⟨1, _⟩ => show win0_3.index t (1 : Fin 2) * 1 + 1 * (j 1).val = (j 1).val; omega
/-- Point `t` sees image `t`'s landmarks. -/
theorem iblk5_apply (c : Dev nD) (t : Fin cfg0.N) (d : Fin 2) (n : Fin 68) :
    iblk m c 5 t (ix3 0 d n) = m ((c : Thread nD τ).loc main_arg1) (ix3 (⟨t.val, t.isLt⟩ : Fin 8) d n) := by
  rw [← V_main_arg1 m c]
  show V m c main_arg1 (((cfg0.win 5).blk t).view.emb (ix3 0 d n)) = _
  obtain ⟨e0, e1, e2⟩ := index5 t
  refine congrArg _ (funext fun a => Fin.ext ?_)
  match a with
  | ⟨0, _⟩ => show win0_5.index t (0 : Fin 3) * 1 + 1 * 0 = t.val; omega
  | ⟨1, _⟩ => show win0_5.index t (1 : Fin 3) * 2 + 1 * d.val = d.val; omega
  | ⟨2, _⟩ => show win0_5.index t (2 : Fin 3) * 68 + 1 * n.val = n.val; omega
/-- Point `t` sees image `t`. -/
theorem iblk6_apply (c : Dev nD) (t : Fin cfg0.N) (ch r s : Fin 128) :
    iblk m c 6 t (ix4 0 ch r s) = m ((c : Thread nD τ).loc main_arg0) (ix4 (⟨t.val, t.isLt⟩ : Fin 8) ch r s) := by
  rw [← V_main_arg0 m c]
  show V m c main_arg0 (((cfg0.win 6).blk t).view.emb (ix4 0 ch r s)) = _
  obtain ⟨e0, e1, e2, e3⟩ := index6 t
  refine congrArg _ (funext fun a => Fin.ext ?_)
  match a with
  | ⟨0, _⟩ => show win0_6.index t (0 : Fin 4) * 1 + 1 * 0 = t.val; omega
  | ⟨1, _⟩ => show win0_6.index t (1 : Fin 4) * 128 + 1 * ch.val = ch.val; omega
  | ⟨2, _⟩ => show win0_6.index t (2 : Fin 4) * 128 + 1 * r.val = r.val; omega
  | ⟨3, _⟩ => show win0_6.index t (3 : Fin 4) * 128 + 1 * s.val = s.val; omega

/-! ## The result arrays -/

/-- A result array: the crops of the images about the landmarks `cols`. -/
def result (cols : Fin 6 → Fin 68) (x : Vec Ideal S8x128x128x128 .f32) (lm : Vec Ideal S8x2x68 .f32) :
    Vec Ideal S48x128x7x7 .f32 := fun y =>
  crops cols (fun b ch r s => x (ix4 b ch r s)) (fun b d n => lm (ix3 b d n)) (y 0) (y 1) (y 2) (y 3)

/-- The landmarks of the boxes `d` to `d + 5` of the twelve are one side's, and so are their shares. -/
theorem side_left (k : Fin 6) : column ⟨k.val + 0, by omega⟩ = leftCols k := by revert k; decide
theorem side_right (k : Fin 6) : column ⟨k.val + 6, by omega⟩ = rightCols k := by revert k; decide

/-- The diagonal blocks that point `t` computes, at an index: the crops of image `t`. -/
theorem diagonal_eq (c : Dev nD) (t : Fin cfg0.N) (d : ℕ) (hd : d ≤ 6) (cols : Fin 6 → Fin 68)
    (hcols : ∀ k : Fin 6, column ⟨k.val + d, by omega⟩ = cols k)
    (hshare : ∀ k : Fin 6, lit1 (S12x1.rowMajor (ix2 ⟨k.val + d, by omega⟩ 0)) = share k)
    (k : Fin 6) (ch : Fin 128) (p q : Fin 7) :
    diagonal (product (iblk m c 0 t) (iblk m c 1 t) (iblk m c 2 t) (iblk m c 3 t) (iblk m c 5 t) (iblk m c 6 t)) d hd
        (ix4 k ch p q)
      = result cols (m ((c : Thread nD τ).loc main_arg0)) (m ((c : Thread nD τ).loc main_arg1))
          (ix4 (⟨6 * t.val + k.val, by have : t.val < 8 := t.isLt; omega⟩ : Fin 48) ch p q) := by
  rw [iblk0_eq, iblk1_eq, iblk2_eq, iblk3_eq, V_sel, V_scales, V_sel84, V_offs]
  refine (product_box tables _ _ _ ch ⟨k.val + d, by omega⟩ p q).trans ?_
  have ht : (6 * t.val + k.val) / 6 = t.val := by omega
  have hk : (6 * t.val + k.val) % 6 = k.val := by omega
  simp only [iblk5_apply, iblk6_apply, hcols]
  rw [show FloatOps.ofBits (F := Ideal) .f32 (lit1 (S12x1.rowMajor (ix2 ⟨k.val + d, by omega⟩ 0))) = Ideal.ofBits .f32 (share k)
    from congrArg _ (hshare k)]
  show _ = crops cols _ _ (⟨6 * t.val + k.val, _⟩ : Fin 48) ch p q
  unfold crops
  simp only [ht, hk]

/-- The shares of the boxes `d` to `d + 5` are the six shares. -/
theorem share_left (k : Fin 6) : lit1 (S12x1.rowMajor (ix2 ⟨k.val + 0, by omega⟩ 0)) = share k := (scale_word k).1
theorem share_right (k : Fin 6) : lit1 (S12x1.rowMajor (ix2 ⟨k.val + 6, by omega⟩ 0)) = share k :=
  (congrArg (fun i => lit1 (S12x1.rowMajor (ix2 i 0))) (Fin.ext (Nat.add_comm _ _))).trans (scale_word k).2

/-- A row of point `t`'s block is a row of the result. -/
theorem block_row_lt (t : Fin cfg0.N) (k : Fin 6) : 6 * t.val + k.val < 48 := by
  have : t.val < 8 := t.isLt
  omega

/-- An index of point `t`'s block of the left side's result is an index of image `t`'s six boxes. -/
theorem emb7 (t : Fin cfg0.N) (j : S6x128x7x7.Idx) : ((cfg0.win 7).blk t).view.emb j
    = ix4 (⟨6 * t.val + (j 0).val, block_row_lt t (j 0)⟩ : Fin 48) (j 1 : Fin 128) (j 2 : Fin 7) (j 3 : Fin 7) := by
  obtain ⟨e0, e1, e2, e3⟩ := index7 t
  refine funext fun a => Fin.ext ?_
  match a with
  | ⟨0, _⟩ => show win0_7.index t (0 : Fin 4) * 6 + 1 * (j 0).val = 6 * t.val + (j 0).val; omega
  | ⟨1, _⟩ => show win0_7.index t (1 : Fin 4) * 128 + 1 * (j 1).val = (j 1).val; omega
  | ⟨2, _⟩ => show win0_7.index t (2 : Fin 4) * 7 + 1 * (j 2).val = (j 2).val; omega
  | ⟨3, _⟩ => show win0_7.index t (3 : Fin 4) * 7 + 1 * (j 3).val = (j 3).val; omega

/-- What point `t` writes back to the left side's result is its block of the crops. -/
theorem flushed7_eq (c : Dev nD) (t : Fin cfg0.N) : (dats m 0 c).flushed 7 t
    = ((cfg0.win 7).blk t).view.read (Elt Ideal)
        (result leftCols (m ((c : Thread nD τ).loc main_arg0)) (m ((c : Thread nD τ).loc main_arg1))) := by
  rw [flushed7_A, out7_eq]
  funext j
  show diagonal _ 0 _ j = result _ _ _ (((cfg0.win 7).blk t).view.emb j)
  rw [emb7]
  refine Eq.trans (congrArg _ ?_) (diagonal_eq m c t 0 (by omega) leftCols side_left share_left (j 0) (j 1) (j 2) (j 3))
  exact funext fun a => by match a with | ⟨0, _⟩ | ⟨1, _⟩ | ⟨2, _⟩ | ⟨3, _⟩ => rfl

/-- Every index of the left side's result is in some point's block. -/
theorem covered7 (i : S48x128x7x7.Idx) :
    ∃ t : Fin cfg0.N, (cfg0.win 7).flush t = true ∧ i ∈ ((cfg0.win 7).blk t).view.set := by
  have h0 : (i 0).val < 48 := (i 0).isLt
  refine ⟨⟨(i 0).val / 6, show (i 0).val / 6 < 8 by omega⟩, flush0_7 _, ?_⟩
  have h := ((cfg0.win 7).blk ⟨(i 0).val / 6, show (i 0).val / 6 < 8 by omega⟩).view.emb_mem_set
    (ix4 (⟨(i 0).val % 6, by omega⟩ : Fin 6) (i 1 : Fin 128) (i 2 : Fin 7) (i 3 : Fin 7))
  rw [emb7] at h
  refine Eq.mp (congrArg (· ∈ _) (funext fun a => Fin.ext ?_)) h
  match a with
  | ⟨0, _⟩ => show 6 * ((i 0).val / 6) + (i 0).val % 6 = (i 0).val; omega
  | ⟨1, _⟩ | ⟨2, _⟩ | ⟨3, _⟩ => rfl

/-- The left side's result after the run. -/
theorem final7 (c : Dev nD) : (dats m 0 c).arrAt 7 cfg0.N
    = result leftCols (m ((c : Thread nD τ).loc main_arg0)) (m ((c : Thread nD τ).loc main_arg1)) :=
  (dats m 0 c).arrAt_eq_of_cover 7 _ (fun t _ => flushed7_eq m c t) covered7

/-- An index of point `t`'s block of the right side's result is an index of image `t`'s six boxes. -/
theorem emb8 (t : Fin cfg0.N) (j : S6x128x7x7.Idx) : ((cfg0.win 8).blk t).view.emb j
    = ix4 (⟨6 * t.val + (j 0).val, block_row_lt t (j 0)⟩ : Fin 48) (j 1 : Fin 128) (j 2 : Fin 7) (j 3 : Fin 7) := by
  obtain ⟨e0, e1, e2, e3⟩ := index8 t
  refine funext fun a => Fin.ext ?_
  match a with
  | ⟨0, _⟩ => show win0_8.index t (0 : Fin 4) * 6 + 1 * (j 0).val = 6 * t.val + (j 0).val; omega
  | ⟨1, _⟩ => show win0_8.index t (1 : Fin 4) * 128 + 1 * (j 1).val = (j 1).val; omega
  | ⟨2, _⟩ => show win0_8.index t (2 : Fin 4) * 7 + 1 * (j 2).val = (j 2).val; omega
  | ⟨3, _⟩ => show win0_8.index t (3 : Fin 4) * 7 + 1 * (j 3).val = (j 3).val; omega

/-- What point `t` writes back to the right side's result is its block of the crops. -/
theorem flushed8_eq (c : Dev nD) (t : Fin cfg0.N) : (dats m 0 c).flushed 8 t
    = ((cfg0.win 8).blk t).view.read (Elt Ideal)
        (result rightCols (m ((c : Thread nD τ).loc main_arg0)) (m ((c : Thread nD τ).loc main_arg1))) := by
  rw [flushed8_A, out8_eq]
  funext j
  show diagonal _ 6 _ j = result _ _ _ (((cfg0.win 8).blk t).view.emb j)
  rw [emb8]
  refine Eq.trans (congrArg _ ?_) (diagonal_eq m c t 6 (by omega) rightCols side_right share_right (j 0) (j 1) (j 2) (j 3))
  exact funext fun a => by match a with | ⟨0, _⟩ | ⟨1, _⟩ | ⟨2, _⟩ | ⟨3, _⟩ => rfl

/-- Every index of the right side's result is in some point's block. -/
theorem covered8 (i : S48x128x7x7.Idx) :
    ∃ t : Fin cfg0.N, (cfg0.win 8).flush t = true ∧ i ∈ ((cfg0.win 8).blk t).view.set := by
  have h0 : (i 0).val < 48 := (i 0).isLt
  refine ⟨⟨(i 0).val / 6, show (i 0).val / 6 < 8 by omega⟩, flush0_8 _, ?_⟩
  have h := ((cfg0.win 8).blk ⟨(i 0).val / 6, show (i 0).val / 6 < 8 by omega⟩).view.emb_mem_set
    (ix4 (⟨(i 0).val % 6, by omega⟩ : Fin 6) (i 1 : Fin 128) (i 2 : Fin 7) (i 3 : Fin 7))
  rw [emb8] at h
  refine Eq.mp (congrArg (· ∈ _) (funext fun a => Fin.ext ?_)) h
  match a with
  | ⟨0, _⟩ => show 6 * ((i 0).val / 6) + (i 0).val % 6 = (i 0).val; omega
  | ⟨1, _⟩ | ⟨2, _⟩ | ⟨3, _⟩ => rfl

/-- The right side's result after the run. -/
theorem final8 (c : Dev nD) : (dats m 0 c).arrAt 8 cfg0.N
    = result rightCols (m ((c : Thread nD τ).loc main_arg0)) (m ((c : Thread nD τ).loc main_arg1)) :=
  (dats m 0 c).arrAt_eq_of_cover 8 _ (fun t _ => flushed8_eq m c t) covered8

/-- The kernel's run: each result array ends at the crops of the images about its side's landmarks, the arguments
    unchanged. -/
theorem kernel_run : θ_run defs (onTc (τ := τ) (main (F := Ideal))) ⟨m, fun _ => 0, ρ⟩ fun r => ∀ c : Dev nD,
      r.2.mem ((c : Thread nD τ).loc main_v0_0)
        = result leftCols (m ((c : Thread nD τ).loc main_arg0)) (m ((c : Thread nD τ).loc main_arg1))
      ∧ r.2.mem ((c : Thread nD τ).loc main_v0_1)
        = result rightCols (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final7 m c), (h c).2.1.trans (final8 m c), (h c).2.2⟩)
    (run_blocks m ρ)

end Cert.Proof.Crop

end
-- ==== Proof.RefTerms.lean ====
/- The reference's stages as functions of what they are given, so that one reading of each serves both sides' results. -/
module

public import proofs.«01_k».proof.Proof.Gen.ReferenceIdeal.Run
public import proofs.«01_k».proof.Proof.Spec

@[expose] public section

noncomputable section

namespace Cert.Proof.Ref

open Idealize.ShloMosaic Idealize.ShloMosaic.TcCoe Cert.ReferenceIdeal Cert.ReferenceIdeal.Gen Cert.ReferenceIdeal.Value

/-- An index counted from the end when it is negative, on an axis of `n`. -/
def wrap {s : Shape} (h : S_.BroadcastsInDim s (![] : Fin 0 → Fin s.rank)) (n : BitVec 32) (i : IVec s 32) : IVec s 32 :=
  select (cmpi .slt i (broadcastInDim s ![] h (constantI S_ 32 0#32)))
    (addi i (broadcastInDim s ![] h (constantI S_ 32 n))) i

/-- One coordinate (`axis`) of the landmarks `at'` of every image. -/
def landmark (axis : BitVec 32) (at' : IVec S6 32) (lm : FVec Ideal S8x2x68 .f32) : FVec Ideal S8x6 .f32 :=
  Host.gather gather_S8x2x68_S6x2_S8x6_0_12_n_n_12_1_811 lm
    (concatenate S6x2 1 [⟨S6x1, broadcastInDim S6x1 ![0] bcast_S6_S6x1_0
        (id (broadcastInDim S6 ![] bcast_S_S6 (constantI S_ 32 axis)))⟩,
      ⟨S6x1, broadcastInDim S6x1 ![0] bcast_S6_S6x1_0 (wrap bcast_S_S6 68#32 at')⟩] concatenates_S6x1_S6x1_S6x2_d1)

/-- Rounded to an integer and clipped to the image. -/
def settle (v : FVec Ideal S8x6 .f32) : FVec Ideal S48 .f32 :=
  shapeCast _ (minimumf (broadcastInDim S8x6 ![] bcast_S_S8x6 (sitofp .f32 (constantI S_ 32 127#32)))
    (maximumf (broadcastInDim S8x6 ![] bcast_S_S8x6 (sitofp .f32 (constantI S_ 32 0#32))) (Host.roundeven v))) shapeCasts_S8x6_S48

/-- The boxes' centres across. -/
def centreX (at' : IVec S6 32) (lm : FVec Ideal S8x2x68 .f32) : FVec Ideal S48 .f32 := settle (landmark 0#32 at' lm)

/-- How far the boxes' centres are moved down. -/
def shift (shares : FVec Ideal S6 .f32) (lm : FVec Ideal S8x2x68 .f32) : FVec Ideal S8x6 .f32 :=
  mulf (broadcastInDim S8x6 ![0, 1] bcast_S8x1_S8x6_0_1 (broadcastInDim S8x1 ![0] bcast_S8_S8x1_0
      (Host.absf (subf (shapeCast _ (extractStridedSlice S8x1x1 ![0, 0, 22] lm slices_S8x2x68_S8x1x1_0_0_22) shapeCasts_S8x1x1_S8)
        (shapeCast _ (extractStridedSlice S8x1x1 ![0, 0, 25] lm slices_S8x2x68_S8x1x1_0_0_25) shapeCasts_S8x1x1_S8)))))
    (broadcastInDim S8x6 ![0, 1] bcast_S1x6_S8x6_0_1 (broadcastInDim S1x6 ![1] bcast_S6_S1x6_1 shares))

/-- The boxes' centres down. -/
def centreY (at' : IVec S6 32) (shares : FVec Ideal S6 .f32) (lm : FVec Ideal S8x2x68 .f32) : FVec Ideal S48 .f32 :=
  settle (addf (landmark 1#32 at' lm) (shift shares lm))

/-- A constant over the boxes. -/
def all48 (w : BitVec 32) : FVec Ideal S48 .f32 := broadcastInDim S48 ![] bcast_S_S48 (constant S_ .f32 w)

/-- The boxes' first edges. -/
def edge (c : FVec Ideal S48 .f32) : FVec Ideal S48 .f32 := mulf (subf c (all48 0x41C00000#32)) (all48 0x3F800000#32)

/-- The boxes' bins' sizes. -/
def size (c : FVec Ideal S48 .f32) : FVec Ideal S48x1x1 .f32 :=
  broadcastInDim S48x1x1 ![0] bcast_S48_S48x1x1_0 (Host.divf
    (maximumf (subf (mulf (addf (addf c (all48 0x41C00000#32)) (all48 0x3F800000#32)) (all48 0x3F800000#32)) (edge c))
      (all48 0x3F800000#32)) (all48 0x40E00000#32))

/-- The sample points of every bin along one axis. -/
def along (c : FVec Ideal S48 .f32) : FVec Ideal S48x7x7 .f32 :=
  addf (broadcastInDim S48x7x7 ![0, 1, 2] bcast_S48x7x1_S48x7x7_0_1_2
      (addf (broadcastInDim S48x7x1 ![0, 1, 2] bcast_S48x1x1_S48x7x1_0_1_2 (broadcastInDim S48x1x1 ![0] bcast_S48_S48x1x1_0 (edge c)))
        (mulf (broadcastInDim S48x7x1 ![0, 1, 2] bcast_S1x7x1_S48x7x1_0_1_2
            (broadcastInDim S1x7x1 ![1] bcast_S7_S1x7x1_1 (sitofp .f32 (iotaInDim S7 32 0))))
          (broadcastInDim S48x7x1 ![0, 1, 2] bcast_S48x1x1_S48x7x1_0_1_2 (size c)))))
    (broadcastInDim S48x7x7 ![0, 1, 2] bcast_S48x1x7_S48x7x7_0_1_2
      (Host.divf (mulf (broadcastInDim S48x1x7 ![0, 1, 2] bcast_S1x1x7_S48x1x7_0_1_2
            (addf (broadcastInDim S1x1x7 ![2] bcast_S7_S1x1x7_2 (sitofp .f32 (iotaInDim S7 32 0)))
              (broadcastInDim S1x1x7 ![] bcast_S_S1x1x7 (constant S_ .f32 0x3F000000#32))))
          (broadcastInDim S48x1x7 ![0, 1, 2] bcast_S48x1x1_S48x1x7_0_1_2 (size c)))
        (broadcastInDim S48x1x7 ![] bcast_S_S48x1x7 (constant S_ .f32 0x40E00000#32))))

/-- The sample points' coordinates down. -/
def pointY (c : FVec Ideal S48 .f32) : FVec Ideal S48x7x7x7x7 .f32 :=
  broadcastInDim S48x7x7x7x7 ![0, 1, 2, 3, 4] bcast_S48x7x7x1x1_S48x7x7x7x7_0_1_2_3_4
    (broadcastInDim S48x7x7x1x1 ![0, 1, 2] bcast_S48x7x7_S48x7x7x1x1_0_1_2 (along c))

/-- The sample points' coordinates across. -/
def pointX (c : FVec Ideal S48 .f32) : FVec Ideal S48x7x7x7x7 .f32 :=
  broadcastInDim S48x7x7x7x7 ![0, 1, 2, 3, 4] bcast_S48x1x1x7x7_S48x7x7x7x7_0_1_2_3_4
    (broadcastInDim S48x1x1x7x7 ![0, 3, 4] bcast_S48x7x7_S48x1x1x7x7_0_3_4 (along c))

/-- The sample points' images. -/
def image : IVec S48x7x7x7x7 32 :=
  broadcastInDim S48x7x7x7x7 ![0, 1, 2, 3, 4] bcast_S48x1x1x1x1_S48x7x7x7x7_0_1_2_3_4
    (broadcastInDim S48x1x1x1x1 ![0] bcast_S48_S48x1x1x1x1_0 (fptosi 32 (sitofp (F := Ideal) .f32
      (shapeCast S48 (broadcastInDim S8x6 ![0, 1] bcast_S8x1_S8x6_0_1 (broadcastInDim S8x1 ![0] bcast_S8_S8x1_0 (iotaInDim S8 32 0)))
        shapeCasts_S8x6_S48))))

/-- A constant over the sample points. -/
def allF (w : BitVec 32) : FVec Ideal S48x7x7x7x7 .f32 := broadcastInDim S48x7x7x7x7 ![] bcast_S_S48x7x7x7x7 (constant S_ .f32 w)
/-- An integer constant over the sample points. -/
def allI (w : BitVec 32) : IVec S48x7x7x7x7 32 := broadcastInDim S48x7x7x7x7 ![] bcast_S_S48x7x7x7x7 (constantI S_ 32 w)

/-- A coordinate held inside the image. -/
def held (P : FVec Ideal S48x7x7x7x7 .f32) : FVec Ideal S48x7x7x7x7 .f32 :=
  minimumf (broadcastInDim S48x7x7x7x7 ![] bcast_S_S48x7x7x7x7 (id (constant S_ .f32 0x42FE0000#32)))
    (maximumf (broadcastInDim S48x7x7x7x7 ![] bcast_S_S48x7x7x7x7 (id (constant S_ .f32 0x00000000#32))) P)

/-- The row (or column) at or before a coordinate. -/
def before (C : FVec Ideal S48x7x7x7x7 .f32) : IVec S48x7x7x7x7 32 := minsi (fptosi 32 (Host.floor C)) (allI 127#32)
/-- The row (or column) after it, held inside the image. -/
def after' (i : IVec S48x7x7x7x7 32) : IVec S48x7x7x7x7 32 := minsi (addi i (allI 1#32)) (allI 127#32)
/-- How far a coordinate is past the row before it. -/
def past (C : FVec Ideal S48x7x7x7x7 .f32) : FVec Ideal S48x7x7x7x7 .f32 := subf C (sitofp .f32 (before C))
/-- How far it is short of the row after. -/
def short (C : FVec Ideal S48x7x7x7x7 .f32) : FVec Ideal S48x7x7x7x7 .f32 := subf (allF 0x3F800000#32) (past C)

/-- Which sample points are inside the image. -/
def inside (Y X : FVec Ideal S48x7x7x7x7 .f32) : IVec S48x7x7x7x7 1 :=
  andi (andi (andi (cmpf .ogt Y (allF 0xBF800000#32)) (cmpf .olt Y (allF 0x43000000#32))) (cmpf .ogt X (allF 0xBF800000#32)))
    (cmpf .olt X (allF 0x43000000#32))

/-- An index per sample point as one column of start indices. -/
def starts (n : BitVec 32) (i : IVec S48x7x7x7x7 32) : IVec S48x7x7x7x7x1 32 :=
  broadcastInDim S48x7x7x7x7x1 ![0, 1, 2, 3, 4] bcast_S48x7x7x7x7_S48x7x7x7x7x1_0_1_2_3_4 (wrap bcast_S_S48x7x7x7x7 n i)

/-- All channels of the pixels `(y, x)` of the images `b`. -/
def pixel (f : FVec Ideal S8x128x128x128 .f32) (b y x : IVec S48x7x7x7x7 32) : FVec Ideal S48x7x7x7x7x128 .f32 :=
  Host.gather gather_S8x128x128x128_S48x7x7x7x7x3_S48x7x7x7x7x128_5_023_n_n_023_5_112811 f
    (concatenate S48x7x7x7x7x3 5 [⟨S48x7x7x7x7x1, starts 8#32 b⟩, ⟨S48x7x7x7x7x1, starts 128#32 y⟩,
      ⟨S48x7x7x7x7x1, starts 128#32 x⟩] concatenates_S48x7x7x7x7x1_S48x7x7x7x7x1_S48x7x7x7x7x1_S48x7x7x7x7x3_d5)

/-- A weight per sample point over the channels. -/
def spreadW (w : FVec Ideal S48x7x7x7x7 .f32) : FVec Ideal S48x7x7x7x7x128 .f32 :=
  broadcastInDim S48x7x7x7x7x128 ![0, 1, 2, 3, 4, 5] bcast_S48x7x7x7x7x1_S48x7x7x7x7x128_0_1_2_3_4_5
    (broadcastInDim S48x7x7x7x7x1 ![0, 1, 2, 3, 4] bcast_S48x7x7x7x7_S48x7x7x7x7x1_0_1_2_3_4 w)

/-- The bilinear samples at the points `(Y, X)` held at `(C, D)`. -/
def samples (f : FVec Ideal S8x128x128x128 .f32) (Y X C D : FVec Ideal S48x7x7x7x7 .f32) : FVec Ideal S48x7x7x7x7x128 .f32 :=
  mulf (addf (addf (addf (mulf (pixel f image (before C) (before D)) (spreadW (mulf (short C) (short D))))
      (mulf (pixel f image (before C) (after' (before D))) (spreadW (mulf (short C) (past D)))))
      (mulf (pixel f image (after' (before C)) (before D)) (spreadW (mulf (past C) (short D)))))
      (mulf (pixel f image (after' (before C)) (after' (before D))) (spreadW (mulf (past C) (past D)))))
    (spreadW (uitofp .f32 (inside Y X)))

/-- The means of the samples over the bins, the channels second. -/
def means (s : FVec Ideal S48x7x7x7x7x128 .f32) : FVec Ideal S48x128x7x7 .f32 :=
  transpose S48x128x7x7 [0, 3, 1, 2] (Host.divf (Host.reduceAdd s (constant S_ .f32 0x00000000#32)
      reducesTo_S48x7x7x7x7x128_S48x7x7x128_d2_4 h_S_)
    (broadcastInDim S48x7x7x128 ![] bcast_S_S48x7x7x128 (constant S_ .f32 0x42440000#32))) transposes_S48x7x7x128_S48x128x7x7_0_3_1_2

/-- The boxes about the centres `(cy, cx)`. -/
def boxes (f : FVec Ideal S8x128x128x128 .f32) (cy cx : FVec Ideal S48 .f32) : FVec Ideal S48x128x7x7 .f32 :=
  means (samples f (pointY cy) (pointX cx) (held (pointY cy)) (held (pointX cx)))

/-- One side's result. -/
def side (at' : IVec S6 32) (shares : FVec Ideal S6 .f32) (f : FVec Ideal S8x128x128x128 .f32) (lm : FVec Ideal S8x2x68 .f32) :
    FVec Ideal S48x128x7x7 .f32 := boxes f (centreY at' shares lm) (centreX at' lm)

end Cert.Proof.Ref

end
-- ==== Proof.RefSum.lean ====
/- Bilinear samples as weighted sums over the image, and their mean over a bin. -/
module

public import proofs.«01_k».proof.Proof.Spec

@[expose] public section

noncomputable section

namespace Cert.Proof.Crop

open Idealize.ShloMosaic

open scoped BigOperators

/-- The row at or before the point `n + 1/2` held inside the image. -/
def row (n : ℤ) : Fin 128 := ⟨(max 0 (min n 127)).toNat, by omega⟩
/-- The row after it, held inside the image. -/
def next (r : Fin 128) : Fin 128 := ⟨min (r.val + 1) 127, by omega⟩
/-- How far the held point is past its row. -/
def part (n : ℤ) : ℝ := if 0 ≤ n ∧ n ≤ 126 then 1 / 2 else 0
/-- The point `n + 1/2` is inside the image, or within one row of it. -/
def valid (n : ℤ) : Prop := -1 ≤ n ∧ n ≤ 127

instance (n : ℤ) : Decidable (valid n) := inferInstanceAs (Decidable (_ ∧ _))

theorem part_nonneg (n : ℤ) : 0 ≤ part n := by unfold part; split_ifs <;> norm_num
theorem part_le (n : ℤ) : 0 ≤ 1 - part n := by unfold part; split_ifs <;> norm_num

/-- A point's weight on a row: the bilinear weights of its two rows. -/
theorem tap_split {n : ℤ} (h : valid n) (r : Fin 128) :
    tap n r.val = (1 - part n) * (if r = row n then 1 else 0) + part n * (if r = next (row n) then 1 else 0) := by
  obtain ⟨h0, h1⟩ := h
  have e1 : r = row n ↔ (r.val : ℤ) = lo n := by
    rw [Fin.ext_iff]; simp only [row, lo]; omega
  rw [tap, if_pos ⟨h0, h1⟩]
  unfold part
  by_cases hn : 0 ≤ n ∧ n ≤ 126
  · have e2 : r = next (row n) ↔ (r.val : ℤ) = hi n := by
      rw [Fin.ext_iff]; simp only [next, row, hi]; omega
    simp only [if_pos hn, e1, e2]
    split_ifs <;> norm_num
  · have e2 : (r.val : ℤ) = hi n ↔ (r.val : ℤ) = lo n := by
      simp only [hi, lo]; omega
    simp only [if_neg hn, e1, e2]
    split_ifs <;> norm_num

/-- A point outside the image has no weight. -/
theorem tap_zero {n : ℤ} (h : ¬ valid n) (r : ℕ) : tap n r = 0 := if_neg h

/-- A sum weighted by two rows' weights. -/
theorem sum_two {c d : ℝ} (hc : 0 ≤ c) (hd : 0 ≤ d) (L H : Fin 128) (f : Fin 128 → EReal) :
    ∑ s : Fin 128, ((c * (if s = L then 1 else 0) + d * (if s = H then 1 else 0) : ℝ) : EReal) * f s
      = (c : EReal) * f L + (d : EReal) * f H := by
  have pos : ∀ (x : ℝ) (_ : 0 ≤ x) (p : Prop) [Decidable p], 0 ≤ x * (if p then 1 else 0 : ℝ) := fun x hx p _ =>
    mul_nonneg hx (by split_ifs <;> norm_num)
  have one : ∀ (x : ℝ) (_ : 0 ≤ x) (J : Fin 128), ∑ s : Fin 128, ((x * (if s = J then 1 else 0) : ℝ) : EReal) * f s
      = (x : EReal) * f J := fun x hx J => by
    rw [← sum_pick f J, coe_mul_sum _ hx]
    exact Finset.sum_congr rfl fun s _ => by rw [EReal.coe_mul, mul_assoc]
  rw [← one c hc L, ← one d hd H, ← Finset.sum_add_distrib]
  exact Finset.sum_congr rfl fun s _ => coe_add_mul (pos c hc _) (pos d hd _) _

/-- The four weighted pixels of a bilinear sample. -/
def bilinear (f : Fin 128 → Fin 128 → EReal) (y x : ℤ) : EReal :=
  f (row y) (row x) * (((1 - part y) * (1 - part x) : ℝ) : EReal)
    + f (row y) (next (row x)) * (((1 - part y) * part x : ℝ) : EReal)
    + f (next (row y)) (row x) * ((part y * (1 - part x) : ℝ) : EReal)
    + f (next (row y)) (next (row x)) * ((part y * part x : ℝ) : EReal)

/-- A bilinear sample, dropped outside the image, is the sum over the image weighted by the point's weights. -/
theorem bilinear_eq (f : Fin 128 → Fin 128 → EReal) (y x : ℤ) :
    bilinear f y x * ((if valid y ∧ valid x then 1 else 0 : ℝ) : EReal)
      = ∑ r : Fin 128, ∑ s : Fin 128, ((tap y r.val * tap x s.val : ℝ) : EReal) * f r s := by
  by_cases h : valid y ∧ valid x
  · rw [if_pos h, EReal.coe_one, mul_one]
    have inner : ∀ r : Fin 128, ∑ s : Fin 128, ((tap y r.val * tap x s.val : ℝ) : EReal) * f r s
        = ((tap y r.val : ℝ) : EReal) * (((1 - part x : ℝ) : EReal) * f r (row x) + ((part x : ℝ) : EReal) * f r (next (row x))) := fun r => by
      rw [← sum_two (part_le x) (part_nonneg x), coe_mul_sum _ (tap_nonneg _ _)]
      exact Finset.sum_congr rfl fun s _ => by rw [tap_split h.2, EReal.coe_mul, mul_assoc]
    simp only [inner]
    simp only [tap_split h.1]
    rw [sum_two (part_le y) (part_nonneg y) (row y) (next (row y))
      (fun r => ((1 - part x : ℝ) : EReal) * f r (row x) + ((part x : ℝ) : EReal) * f r (next (row x)))]
    have dist : ∀ (c : ℝ) (_ : 0 ≤ c) (a b : EReal), (c : EReal) * (a + b) = c * a + c * b := fun c hc a b => (scale c hc).map_add a b
    rw [dist _ (part_le y), dist _ (part_nonneg y)]
    simp only [← mul_assoc, ← EReal.coe_mul, bilinear]
    rw [mul_comm (f (row y) (row x)), mul_comm (f (row y) (next (row x))), mul_comm (f (next (row y)) (row x)),
      mul_comm (f (next (row y)) (next (row x)))]
    simp only [add_assoc]
  · rw [if_neg h, EReal.coe_zero, mul_zero]
    refine (Finset.sum_eq_zero fun r _ => Finset.sum_eq_zero fun s _ => ?_).symm
    have z : tap y r.val * tap x s.val = 0 := by
      rcases not_and_or.1 h with h | h
      · rw [tap_zero h, zero_mul]
      · rw [tap_zero h, mul_zero]
    rw [z, EReal.coe_zero, zero_mul]

/-- Two pairs of sums change places. -/
theorem sums_swap {α β : Type} [Fintype α] [Fintype β] (T : α → α → β → β → EReal) :
    ∑ g, ∑ h, ∑ r, ∑ s, T g h r s = ∑ r, ∑ s, ∑ g, ∑ h, T g h r s := by
  simp_rw [Finset.sum_comm (s := (Finset.univ : Finset α)) (t := (Finset.univ : Finset β))]

/-- The mean of a bin's samples is the bin's weighted sum over the image. -/
theorem mean_eq (f : Fin 128 → Fin 128 → EReal) (zy zx : ℤ) :
    Ideal.div (∑ g : Fin 7, ∑ h : Fin 7, ∑ r : Fin 128, ∑ s : Fin 128,
      ((tap (zy + g.val) r.val * tap (zx + h.val) s.val : ℝ) : EReal) * f r s) (int 49) = pooled f zy zx := by
  have k : (0 : ℝ) ≤ 1 / ((49 : ℤ) : ℝ) := by norm_num
  have t : ∀ (g h : Fin 7) (r s : Fin 128), 0 ≤ 1 / ((49 : ℤ) : ℝ) * tap (zy + g.val) r.val * tap (zx + h.val) s.val := fun g h r s =>
    mul_nonneg (mul_nonneg k (tap_nonneg _ _)) (tap_nonneg _ _)
  rw [int, Ideal.div_coe (by norm_num), mul_comm]
  simp only [coe_mul_sum _ k, ← mul_assoc, ← EReal.coe_mul]
  rw [sums_swap]
  refine Finset.sum_congr rfl fun r _ => Finset.sum_congr rfl fun s _ => ?_
  have e : bin zy r.val * bin zx s.val
      = ∑ g : Fin 7, ∑ h : Fin 7, 1 / ((49 : ℤ) : ℝ) * tap (zy + g.val) r.val * tap (zx + h.val) s.val := by
    simp only [← Finset.mul_sum, ← Finset.sum_mul, bin]
    push_cast
    ring
  rw [e, coe_sum_mul _ _ (fun g => Finset.sum_nonneg fun h _ => t g h r s)]
  exact Finset.sum_congr rfl fun g _ => (coe_sum_mul _ _ (fun h => t g h r s) _).symm

end Cert.Proof.Crop

end
-- ==== Proof.RefRead.lean ====
/- The reference's stages read at an index: each sample point lies half way between two rows, or two columns. -/
module

public import proofs.«01_k».proof.Proof.RefTerms
public import proofs.«01_k».proof.Proof.RefSum

@[expose] public section

noncomputable section

namespace Cert.Proof.Ref

open Idealize.ShloMosaic Cert.ReferenceIdeal Cert.ReferenceIdeal.Gen Cert.Proof.Crop

/-! ## Numbers -/

/-- The number half way from `n` to `n + 1`. -/
def half (n : ℤ) : EReal := ((n + 1 / 2 : ℝ) : EReal)

/-- Seven over seven: a bin's size over the samples in it is one. -/
theorem div_int (a b c : ℤ) (hb : b ≠ 0) (h : a = c * b) : Ideal.div (int a) (int b) = int c := by
  have hb' : ((b : ℤ) : ℝ) ≠ 0 := by exact_mod_cast hb
  rw [int, int, Ideal.div_coe hb', ← EReal.coe_mul, int, h]
  congr 1; push_cast; field_simp

/-- A held point is its row and the part past it. -/
theorem held_half (n : ℤ) : min (int 127) (max (int 0) (half n)) = (((row n).val + part n : ℝ) : EReal) := by
  have cast : ∀ k : ℤ, ((row n).val : ℤ) = k → ((row n).val : ℝ) = (k : ℝ) := fun k e => by exact_mod_cast e
  unfold part half int
  rcases lt_trichotomy n (-1) with h | h | h
  · rw [if_neg (by omega), cast 0 (by simp only [row]; omega), max_eq_left (EReal.coe_le_coe_iff.2 ?_),
      min_eq_right (EReal.coe_le_coe_iff.2 ?_)]
    · simp
    · norm_num
    · have : (n : ℝ) ≤ -1 := by exact_mod_cast h.le
      push_cast; linarith
  · rw [if_neg (by omega), cast 0 (by simp only [row]; omega), max_eq_left (EReal.coe_le_coe_iff.2 ?_),
      min_eq_right (EReal.coe_le_coe_iff.2 ?_)]
    · simp
    · norm_num
    · rw [h]; norm_num
  · have h0 : (0 : ℝ) ≤ n := by exact_mod_cast (by omega : (0 : ℤ) ≤ n)
    rw [max_eq_right (EReal.coe_le_coe_iff.2 (by push_cast; linarith))]
    by_cases h1 : n ≤ 126
    · have h2 : (n : ℝ) ≤ 126 := by exact_mod_cast h1
      rw [if_pos (by omega), cast n (by simp only [row]; omega), min_eq_right (EReal.coe_le_coe_iff.2 (by push_cast; linarith))]
    · have h2 : (127 : ℝ) ≤ n := by exact_mod_cast (by omega : (127 : ℤ) ≤ n)
      rw [if_neg (by omega), cast 127 (by simp only [row]; omega), min_eq_left (EReal.coe_le_coe_iff.2 (by push_cast; linarith))]
      simp

/-- The floor of a held point is its row. -/
theorem floor_held (n : ℤ) : ⌊((row n).val + part n : ℝ)⌋ = ((row n).val : ℤ) := by
  rw [Int.floor_eq_iff]
  have := part_nonneg n
  have : part n < 1 := by unfold part; split_ifs <;> norm_num
  constructor <;> push_cast <;> linarith

/-- A natural number made a word. -/
theorem word_of {k : ℕ} (h : k < 2 ^ 31) : (FloatOps.fptosi (F := Ideal) (φ := .f32) 32 (int k) : BitVec 32) = BitVec.ofNat 32 k := by
  show BitVec.ofInt 32 (max _ (min _ (if 0 ≤ (((k : ℤ)) : ℝ) then ⌊(((k : ℤ)) : ℝ)⌋ else ⌈(((k : ℤ)) : ℝ)⌉))) = _
  rw [Int.floor_intCast, if_pos (by positivity)]
  have e : max (-(2 ^ (32 - 1) : ℕ) : ℤ) (min (((2 ^ (32 - 1) : ℕ) : ℤ) - 1) (k : ℤ)) = (k : ℤ) := by
    norm_num at h ⊢; omega
  rw [e]
  exact BitVec.ofInt_natCast 32 k

theorem row_min : ∀ k : Fin 128, IntOp.minsi (BitVec.ofNat 32 k.val) 127#32 = BitVec.ofNat 32 k.val := by decide +kernel
theorem next_word : ∀ k : Fin 128, IntOp.minsi (IntOp.addi (BitVec.ofNat 32 k.val) 1#32) 127#32 = BitVec.ofNat 32 (next k).val := by decide +kernel
theorem not_neg : ∀ k : Fin 128, IntOp.cmpi .slt (BitVec.ofNat 32 k.val) 0#32 = 0#1 := by decide +kernel
theorem word_nat : ∀ k : Fin 128, (BitVec.ofNat 32 k.val).toInt.toNat = k.val := by decide +kernel

theorem half_gt (n : ℤ) : int (-1) < half n ↔ -1 ≤ n := by
  unfold half int
  rw [EReal.coe_lt_coe_iff]
  constructor
  · intro h
    by_contra g
    have : (n : ℝ) ≤ -2 := by exact_mod_cast (by omega : n ≤ -2)
    push_cast at h; linarith
  · intro h
    have : (-1 : ℝ) ≤ n := by exact_mod_cast h
    push_cast; linarith
theorem half_lt (n : ℤ) : half n < int 128 ↔ n ≤ 127 := by
  unfold half int
  rw [EReal.coe_lt_coe_iff]
  constructor
  · intro h
    by_contra g
    have : (128 : ℝ) ≤ n := by exact_mod_cast (by omega : (128 : ℤ) ≤ n)
    push_cast at h; linarith
  · intro h
    have : (n : ℝ) ≤ 127 := by exact_mod_cast h
    push_cast; linarith

/-! ## The sample points -/

theorem edge_at {c : FVec Ideal S48 .f32} {n : Fin 48} {z : ℤ} (h : c (ix1 n) = int z) : edge c (ix1 n) = int (z - 24) := by
  pointwise [edge, all48]
  rw [h, word_24, int_sub]

/-- A box's bin is seven pixels. -/
theorem size_at {c : FVec Ideal S48 .f32} {n : Fin 48} {z : ℤ} (h : c (ix1 n) = int z) : size c (ix3 n 0 0) = int 7 := by
  have e := edge_at h
  pointwise [size, all48]
  rw [e, h, word_24, word_7, one_int, int_add, int_add, int_sub, int_max]
  exact div_int _ _ _ (by norm_num) (by omega)

/-- Sample `g` of bin `p` of a box about `z` along one axis. -/
theorem along_at {c : FVec Ideal S48 .f32} {n : Fin 48} {z : ℤ} (h : c (ix1 n) = int z) (p g : Fin 7) :
    along c (ix3 n p g) = half (z - 24 + 7 * p.val + g.val) := by
  have e := edge_at h
  have s := size_at h
  pointwise [along]
  rw [e, s, row_word (by omega), row_word (by omega), word_half, word_7]
  unfold int half
  rw [Ideal.div_coe (by norm_num)]
  simp only [← EReal.coe_mul, ← EReal.coe_add]
  congr 1; push_cast; ring

theorem pointY_at (c : FVec Ideal S48 .f32) (n : Fin 48) (p g q h : Fin 7) : pointY c (ix5 n p g q h) = along c (ix3 n p g) := by
  pointwise [pointY]
theorem pointX_at (c : FVec Ideal S48 .f32) (n : Fin 48) (p g q h : Fin 7) : pointX c (ix5 n p g q h) = along c (ix3 n q h) := by
  pointwise [pointX]

/-- Box `n` is of image `n / 6`. -/
theorem image_at (n : Fin 48) (p g q h : Fin 7) : image (ix5 n p g q h) = BitVec.ofNat 32 (n.val / 6) := by
  pointwise [image]
  rw [row_word (by omega), word_of (by omega)]

section Point

variable (C P Q : FVec Ideal S48x7x7x7x7 .f32) (i : IVec S48x7x7x7x7 32) (n : Fin 48) (p g q h : Fin 7) {y x : ℤ}

theorem held_at (e : P (ix5 n p g q h) = half y) : held P (ix5 n p g q h) = (((row y).val + part y : ℝ) : EReal) := by
  pointwise [held]
  rw [e, ← held_half, ← word_127, ← word_zero]
  rfl

theorem before_at (e : C (ix5 n p g q h) = (((row y).val + part y : ℝ) : EReal)) :
    before C (ix5 n p g q h) = BitVec.ofNat 32 (row y).val := by
  pointwise [before, allI]
  rw [e]
  show IntOp.minsi (FloatOps.fptosi (F := Ideal) (φ := .f32) 32 (int ⌊((row y).val + part y : ℝ)⌋)) _ = _
  rw [floor_held, word_of (by omega), row_min]

theorem after_at {k : Fin 128} (e : i (ix5 n p g q h) = BitVec.ofNat 32 k.val) : after' i (ix5 n p g q h) = BitVec.ofNat 32 (next k).val := by
  pointwise [after', allI]
  rw [e, next_word]

theorem past_at (e : C (ix5 n p g q h) = (((row y).val + part y : ℝ) : EReal)) : past C (ix5 n p g q h) = (part y : EReal) := by
  have b := before_at C n p g q h e
  pointwise [past]
  rw [b, e, row_word (by omega), int, ← EReal.coe_sub]
  congr 1; push_cast; ring

theorem short_at (e : C (ix5 n p g q h) = (((row y).val + part y : ℝ) : EReal)) :
    short C (ix5 n p g q h) = ((1 - part y : ℝ) : EReal) := by
  have b := past_at C n p g q h e
  pointwise [short, allF]
  rw [b, EReal.coe_sub, EReal.coe_one]

theorem inside_at (e : P (ix5 n p g q h) = half y) (f : Q (ix5 n p g q h) = half x) :
    (uitofp (F := Ideal) .f32 (inside P Q)) (ix5 n p g q h) = ((if valid y ∧ valid x then 1 else 0 : ℝ) : EReal) := by
  pointwise [inside, allF]
  rw [e, f, word_neg1, word_128]
  show (((IntOp.andi (IntOp.andi (IntOp.andi (BitVec.ofBool (decide (int (-1) < half y))) (BitVec.ofBool (decide (half y < int 128))))
    (BitVec.ofBool (decide (int (-1) < half x)))) (BitVec.ofBool (decide (half x < int 128)))).toNat : ℝ) : EReal) = _
  simp only [flag_and, half_gt, half_lt, and_assoc]
  unfold valid
  by_cases t : (-1 ≤ y ∧ y ≤ 127 ∧ -1 ≤ x ∧ x ≤ 127)
  · rw [if_pos ⟨⟨t.1, t.2.1⟩, t.2.2⟩, decide_eq_true t]; simp
  · rw [if_neg (fun u => t ⟨u.1.1, u.1.2, u.2⟩), decide_eq_false t]; simp

theorem starts_at (N : BitVec 32) {k : Fin 128} (e : i (ix5 n p g q h) = BitVec.ofNat 32 k.val) :
    starts N i (ix6 n p g q h 0) = BitVec.ofNat 32 k.val := by
  pointwise [starts, wrap]
  rw [e, not_neg]
  rfl

theorem spread_at (w : FVec Ideal S48x7x7x7x7 .f32) (ch : Fin 128) : spreadW w (ix6 n p g q h ch) = w (ix5 n p g q h) := by
  pointwise [spreadW]

end Point

/-! ## The centres -/

theorem settle_at (v : FVec Ideal S8x6 .f32) (n : Fin 48) :
    settle v (ix1 n) = clipped (v (ix2 ⟨n.val / 6, by omega⟩ ⟨n.val % 6, by omega⟩)) := by
  pointwise [settle, clipped]
  rw [show (127#32) = BitVec.ofNat 32 127 from rfl, show (0#32) = BitVec.ofNat 32 0 from rfl, row_word (by norm_num), row_word (by norm_num)]
  rfl

theorem shift_at (s : FVec Ideal S6 .f32) (lm : FVec Ideal S8x2x68 .f32) (b : Fin 8) (k : Fin 6) :
    shift s lm (ix2 b k) = Crop.dist (lm (ix3 b 0 22)) (lm (ix3 b 0 25)) * s (ix1 k) := by
  pointwise [shift]
  rfl

end Cert.Proof.Ref

end
-- ==== Proof.RefGather.lean ====
/- The reference's two gathers and its sum over samples, read at an index. -/
module

public import proofs.«01_k».proof.Proof.RefRead

@[expose] public section

noncomputable section

namespace Cert.Proof.Ref

open Idealize.ShloMosaic Cert.ReferenceIdeal Cert.ReferenceIdeal.Gen Cert.Proof.Crop

/-! ## Gathers -/

section Coordinates

variable {s si t : Shape} {w : ℕ} (d : GatherDims s si t) (j : t.Idx) (idx : IVec si w) (a : Fin s.rank)

/-- A collapsed axis is read at its start index, held inside the axis. -/
theorem collapsed_coord (hb : d.operandBatchingDims = []) (hc : a ∈ d.collapsedSliceDims) (hm : a ∈ d.startIndexMap) (u : si.Idx)
    (hu : d.siIdx j ⟨d.startIndexMap.idxOf a, List.idxOf_lt_length_iff.2 hm⟩ = u) :
    (d.operandIdx j idx a).val = min (idx u).toInt.toNat (s.size a - d.sliceSizes a) := by
  show d.start j idx a + d.batchCoord j a + d.offCoord j a = _
  rw [d.batchCoord_eq_zero _ _ (by rw [hb]; exact List.not_mem_nil), d.offCoord_eq_zero _ _ (fun h => ((d.mem_sKept _).1 h).1 hc),
    GatherDims.start, dif_pos hm, hu]
  rfl

/-- An axis with no start index is read at the result's own coordinate. -/
theorem kept_coord (hb : d.operandBatchingDims = []) (hm : a ∉ d.startIndexMap) :
    (d.operandIdx j idx a).val = d.offCoord j a := by
  show d.start j idx a + d.batchCoord j a + d.offCoord j a = _
  rw [d.batchCoord_eq_zero _ _ (by rw [hb]; exact List.not_mem_nil), GatherDims.start, dif_neg hm, Nat.zero_add]

end Coordinates

/-- The pixels' gather at an index. -/
theorem pixel_gather (f : FVec Ideal S8x128x128x128 .f32) (idx : IVec S48x7x7x7x7x3 32) (n : Fin 48) (p g q h : Fin 7) (ch : Fin 128)
    (b : Fin 8) (y x : Fin 128) (eb : (idx (ix6 n p g q h 0)).toInt.toNat = b.val) (ey : (idx (ix6 n p g q h 1)).toInt.toNat = y.val)
    (ex : (idx (ix6 n p g q h 2)).toInt.toNat = x.val) :
    Host.gather gather_S8x128x128x128_S48x7x7x7x7x3_S48x7x7x7x7x128_5_023_n_n_023_5_112811 f idx (ix6 n p g q h ch)
      = f (ix4 b ch y x) := by
  unfold Host.gather
  congr 1
  have six : ∀ (k : Fin 3) (a : Fin 4) (hm : a ∈ ([0, 2, 3] : List (Fin 4))) (_ : ([0, 2, 3] : List (Fin 4)).idxOf a = k.val),
      gather_S8x128x128x128_S48x7x7x7x7x3_S48x7x7x7x7x128_5_023_n_n_023_5_112811.siIdx (ix6 n p g q h ch)
        ⟨([0, 2, 3] : List (Fin 4)).idxOf a, List.idxOf_lt_length_iff.2 hm⟩ = ix6 n p g q h k := fun k a hm hk => by
    funext c
    refine Fin.ext ?_
    match c with
    | ⟨0, _⟩ => rfl
    | ⟨1, _⟩ => rfl
    | ⟨2, _⟩ => rfl
    | ⟨3, _⟩ => rfl
    | ⟨4, _⟩ => rfl
    | ⟨5, _⟩ => exact hk
  funext a
  refine Fin.ext ?_
  match a with
  | ⟨0, _⟩ =>
    refine (collapsed_coord gather_S8x128x128x128_S48x7x7x7x7x3_S48x7x7x7x7x128_5_023_n_n_023_5_112811 (ix6 n p g q h ch) idx (0 : Fin 4) rfl (show (0 : Fin 4) ∈ ([0, 2, 3] : List (Fin 4)) from by decide) (show (0 : Fin 4) ∈ ([0, 2, 3] : List (Fin 4)) from by decide) _ (six 0 0 (by decide) rfl)).trans ?_
    rw [eb]
    exact Nat.min_eq_left (Nat.le_of_lt_succ b.isLt)
  | ⟨1, _⟩ =>
    exact (kept_coord gather_S8x128x128x128_S48x7x7x7x7x3_S48x7x7x7x7x128_5_023_n_n_023_5_112811 (ix6 n p g q h ch) idx (1 : Fin 4) rfl (show (1 : Fin 4) ∉ ([0, 2, 3] : List (Fin 4)) from by decide)).trans rfl
  | ⟨2, _⟩ =>
    refine (collapsed_coord gather_S8x128x128x128_S48x7x7x7x7x3_S48x7x7x7x7x128_5_023_n_n_023_5_112811 (ix6 n p g q h ch) idx (2 : Fin 4) rfl (show (2 : Fin 4) ∈ ([0, 2, 3] : List (Fin 4)) from by decide) (show (2 : Fin 4) ∈ ([0, 2, 3] : List (Fin 4)) from by decide) _ (six 1 2 (by decide) rfl)).trans ?_
    rw [ey]
    exact Nat.min_eq_left (Nat.le_of_lt_succ y.isLt)
  | ⟨3, _⟩ =>
    refine (collapsed_coord gather_S8x128x128x128_S48x7x7x7x7x3_S48x7x7x7x7x128_5_023_n_n_023_5_112811 (ix6 n p g q h ch) idx (3 : Fin 4) rfl (show (3 : Fin 4) ∈ ([0, 2, 3] : List (Fin 4)) from by decide) (show (3 : Fin 4) ∈ ([0, 2, 3] : List (Fin 4)) from by decide) _ (six 2 3 (by decide) rfl)).trans ?_
    rw [ex]
    exact Nat.min_eq_left (Nat.le_of_lt_succ x.isLt)

/-- The landmarks' gather at an index. -/
theorem landmark_gather (lm : FVec Ideal S8x2x68 .f32) (idx : IVec S6x2 32) (b : Fin 8) (k : Fin 6) (d : Fin 2) (n : Fin 68)
    (ed : (idx (ix2 k 0)).toInt.toNat = d.val) (en : (idx (ix2 k 1)).toInt.toNat = n.val) :
    Host.gather gather_S8x2x68_S6x2_S8x6_0_12_n_n_12_1_811 lm idx (ix2 b k) = lm (ix3 b d n) := by
  unfold Host.gather
  congr 1
  have six : ∀ (i : Fin 2) (a : Fin 3) (hm : a ∈ ([1, 2] : List (Fin 3))) (_ : ([1, 2] : List (Fin 3)).idxOf a = i.val),
      gather_S8x2x68_S6x2_S8x6_0_12_n_n_12_1_811.siIdx (ix2 b k)
        ⟨([1, 2] : List (Fin 3)).idxOf a, List.idxOf_lt_length_iff.2 hm⟩ = ix2 k i := fun i a hm hi => by
    funext c
    refine Fin.ext ?_
    match c with
    | ⟨0, _⟩ => rfl
    | ⟨1, _⟩ => exact hi
  funext a
  refine Fin.ext ?_
  match a with
  | ⟨0, _⟩ =>
    exact (kept_coord gather_S8x2x68_S6x2_S8x6_0_12_n_n_12_1_811 (ix2 b k) idx (0 : Fin 3) rfl (show (0 : Fin 3) ∉ ([1, 2] : List (Fin 3)) from by decide)).trans rfl
  | ⟨1, _⟩ =>
    refine (collapsed_coord gather_S8x2x68_S6x2_S8x6_0_12_n_n_12_1_811 (ix2 b k) idx (1 : Fin 3) rfl (show (1 : Fin 3) ∈ ([1, 2] : List (Fin 3)) from by decide) (show (1 : Fin 3) ∈ ([1, 2] : List (Fin 3)) from by decide) _ (six 0 1 (by decide) rfl)).trans ?_
    rw [ed]
    exact Nat.min_eq_left (Nat.le_of_lt_succ d.isLt)
  | ⟨2, _⟩ =>
    refine (collapsed_coord gather_S8x2x68_S6x2_S8x6_0_12_n_n_12_1_811 (ix2 b k) idx (2 : Fin 3) rfl (show (2 : Fin 3) ∈ ([1, 2] : List (Fin 3)) from by decide) (show (2 : Fin 3) ∈ ([1, 2] : List (Fin 3)) from by decide) _ (six 1 2 (by decide) rfl)).trans ?_
    rw [en]
    exact Nat.min_eq_left (Nat.le_of_lt_succ n.isLt)

/-- The pixel of a sample point. -/
theorem pixel_at (f : FVec Ideal S8x128x128x128 .f32) (b y x : IVec S48x7x7x7x7 32) (n : Fin 48) (p g q h : Fin 7) (ch : Fin 128)
    (B : Fin 8) (Y X : Fin 128) (eb : b (ix5 n p g q h) = BitVec.ofNat 32 B.val) (ey : y (ix5 n p g q h) = BitVec.ofNat 32 Y.val)
    (ex : x (ix5 n p g q h) = BitVec.ofNat 32 X.val) :
    pixel f b y x (ix6 n p g q h ch) = f (ix4 B ch Y X) := by
  have e0 := starts_at b n p g q h 8#32 (k := B.castLE (by norm_num)) eb
  have e1 := starts_at y n p g q h 128#32 ey
  have e2 := starts_at x n p g q h 128#32 ex
  have w0 := word_nat (B.castLE (by norm_num))
  unfold pixel
  refine pixel_gather f _ n p g q h ch B Y X ?_ ?_ ?_
  · refine Eq.trans (congrArg (fun v : BitVec 32 => v.toInt.toNat) ?_) w0
    rw [← e0]
    pointwise
  · refine Eq.trans (congrArg (fun v : BitVec 32 => v.toInt.toNat) ?_) (word_nat Y)
    rw [← e1]
    pointwise
  · refine Eq.trans (congrArg (fun v : BitVec 32 => v.toInt.toNat) ?_) (word_nat X)
    rw [← e2]
    pointwise

/-- A landmark's coordinate. -/
theorem landmark_at (axis : BitVec 32) (at' : IVec S6 32) (lm : FVec Ideal S8x2x68 .f32) (b : Fin 8) (k : Fin 6) (d : Fin 2) (n : Fin 68)
    (ed : axis = BitVec.ofNat 32 d.val) (en : at' (ix1 k) = BitVec.ofNat 32 n.val) :
    landmark axis at' lm (ix2 b k) = lm (ix3 b d n) := by
  have e := not_neg (n.castLE (by norm_num))
  have wd := word_nat (d.castLE (by norm_num))
  have wn := word_nat (n.castLE (by norm_num))
  unfold landmark
  refine landmark_gather lm _ b k d n ?_ ?_
  · refine Eq.trans (congrArg (fun v : BitVec 32 => v.toInt.toNat) ?_) wd
    refine Eq.trans ?_ ed
    pointwise
    rfl
  · refine Eq.trans (congrArg (fun v : BitVec 32 => v.toInt.toNat) ?_) wn
    refine Eq.trans ?_ en
    pointwise [wrap]
    rw [en]
    exact (congrArg (fun v : BitVec 1 => Scalar.select v _ _) e).trans rfl

/-! ## The sum over a bin's samples -/

/-- The samples that one bin of the means is over. -/
theorem samples_of (n : Fin 48) (p q : Fin 7) (ch : Fin 128) (i : S48x7x7x7x7x128.Idx) :
    (reducesTo_S48x7x7x7x7x128_S48x7x7x128_d2_4).drop i = ix4 n p q ch ↔ ∃ k : Fin 7 × Fin 7, ix6 n p k.1 q k.2 ch = i := by
  constructor
  · intro e
    refine ⟨(i 2, i 4), ?_⟩
    funext a
    refine Fin.ext ?_
    match a with
    | ⟨0, _⟩ => exact (congrArg Fin.val (congrFun e 0)).symm
    | ⟨1, _⟩ => exact (congrArg Fin.val (congrFun e 1)).symm
    | ⟨2, _⟩ => rfl
    | ⟨3, _⟩ => exact (congrArg Fin.val (congrFun e 2)).symm
    | ⟨4, _⟩ => rfl
    | ⟨5, _⟩ => exact (congrArg Fin.val (congrFun e 3)).symm
  · rintro ⟨k, rfl⟩
    funext b
    refine Fin.ext ?_
    match b with
    | ⟨0, _⟩ => rfl
    | ⟨1, _⟩ => rfl
    | ⟨2, _⟩ => rfl
    | ⟨3, _⟩ => rfl

/-- The means at an index: the bin's samples summed, over 49. -/
theorem means_at (s : FVec Ideal S48x7x7x7x7x128 .f32) (n : Fin 48) (ch : Fin 128) (p q : Fin 7) :
    means s (ix4 n ch p q) = Ideal.div (∑ g : Fin 7, ∑ h : Fin 7, s (ix6 n p g q h ch)) (int 49) := by
  pointwise [means]
  rw [word_49]
  congr 1
  unfold Ideal.hostReduceAdd
  rw [zero_add, Finset.sum_filter_eq_sum_of_fiber _ (fun k : Fin 7 × Fin 7 => ix6 n p k.1 q k.2 ch)
    (fun _ _ e => Prod.ext (congrFun e 2) (congrFun e 4)) (samples_of n p q ch) s]
  exact Fintype.sum_prod_type _

end Cert.Proof.Ref

end
-- ==== Proof.RefSide.lean ====
/- The reference's two results are the two sides' boxes. -/
module

public import proofs.«01_k».proof.Proof.RefTerms

@[expose] public section

noncomputable section

namespace Cert.Proof.Ref

open Idealize.ShloMosaic Idealize.ShloMosaic.TcCoe Idealize.SL.Sem Cert.ReferenceIdeal Cert.ReferenceIdeal.Gen Cert.ReferenceIdeal.Value

variable (m : (ℓ : Loc nD τ sig) → Buf (Elt Ideal) ℓ) (ρ : Dev nD → PrngReg)

set_option maxRecDepth 8192 in
/-- What the reference leaves in its two result arrays, stage by stage. -/
theorem sides_run :
    θ_run defs (onTc (τ := τ) (main (F := Ideal))) ⟨m, fun _ => 0, ρ⟩ fun r => ∀ c : Dev nD,
      r.2.mem ((c.tc : Thread nD τ).loc main_v263) = side (fun i => lit1 (S6.rowMajor i))
        (fun i => FloatOps.ofBits (F := Ideal) .f32 (lit0 (S6.rowMajor i))) (m ((c.tc : Thread nD τ).loc main_arg0)) (m ((c.tc : Thread nD τ).loc main_arg1))
      ∧ r.2.mem ((c.tc : Thread nD τ).loc main_v527) = side (fun i => lit3 (S6.rowMajor i))
        (fun i => FloatOps.ofBits (F := Ideal) .f32 (lit2 (S6.rowMajor i))) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2.1.trans rfl, (h c).2.2⟩) (run m ρ)

end Cert.Proof.Ref

end
-- ==== Proof.RefRun.lean ====
/- What the reference leaves in its two result arrays. -/
module

public import proofs.«01_k».proof.Proof.RefGather
public import proofs.«01_k».proof.Proof.RefSide

@[expose] public section

noncomputable section

namespace Cert.Proof.Ref

open Idealize.ShloMosaic Idealize.ShloMosaic.TcCoe Idealize.SL.Sem Cert.ReferenceIdeal Cert.ReferenceIdeal.Gen Cert.Proof.Crop

/-- A sample at an index, when its point is half way past row `y` and column `x`. -/
theorem samples_at (f : FVec Ideal S8x128x128x128 .f32) (Y X : FVec Ideal S48x7x7x7x7 .f32) (n : Fin 48) (p g q h : Fin 7) (ch : Fin 128)
    {y x : ℤ} (ey : Y (ix5 n p g q h) = half y) (ex : X (ix5 n p g q h) = half x) :
    samples f Y X (held Y) (held X) (ix6 n p g q h ch)
      = bilinear (fun r s => f (ix4 ⟨n.val / 6, by omega⟩ ch r s)) y x * ((if valid y ∧ valid x then 1 else 0 : ℝ) : EReal) := by
  have hy := held_at Y n p g q h ey
  have hx := held_at X n p g q h ex
  have by' := before_at _ n p g q h hy
  have bx := before_at _ n p g q h hx
  have ay := after_at _ n p g q h by'
  have ax := after_at _ n p g q h bx
  have py := past_at _ n p g q h hy
  have px := past_at _ n p g q h hx
  have sy := short_at _ n p g q h hy
  have sx := short_at _ n p g q h hx
  have im := image_at n p g q h
  have weight : ∀ (v w : FVec Ideal S48x7x7x7x7 .f32) (a b : ℝ), v (ix5 n p g q h) = (a : EReal) → w (ix5 n p g q h) = (b : EReal) →
      spreadW (mulf v w) (ix6 n p g q h ch) = ((a * b : ℝ) : EReal) := fun v w a b hv hw => by
    rw [spread_at, EReal.coe_mul, ← hv, ← hw]; rfl
  have at' := fun (i j : IVec S48x7x7x7x7 32) (r s : Fin 128) => pixel_at f image i j n p g q h ch ⟨n.val / 6, by omega⟩ r s im
  have ins := (spread_at n p g q h (uitofp .f32 (inside Y X)) ch).trans (inside_at Y X n p g q h ey ex)
  rw [← ins]
  unfold bilinear
  beta_reduce
  rw [← at' _ _ _ _ by' bx, ← at' _ _ _ _ by' ax, ← at' _ _ _ _ ay bx, ← at' _ _ _ _ ay ax,
    ← weight _ _ _ _ sy sx, ← weight _ _ _ _ sy px, ← weight _ _ _ _ py sx, ← weight _ _ _ _ py px]
  rfl

/-- A box's bins when its centre is the cell `(zy, zx)`. -/
theorem boxes_at (f : FVec Ideal S8x128x128x128 .f32) (cy cx : FVec Ideal S48 .f32) (n : Fin 48) (ch : Fin 128) (p q : Fin 7) {zy zx : ℤ}
    (ey : cy (ix1 n) = int zy) (ex : cx (ix1 n) = int zx) :
    boxes f cy cx (ix4 n ch p q)
      = pooled (fun r s => f (ix4 ⟨n.val / 6, by omega⟩ ch r s)) (zy - 24 + 7 * p.val) (zx - 24 + 7 * q.val) := by
  unfold boxes
  rw [means_at, ← mean_eq]
  congr 1
  refine Finset.sum_congr rfl fun g _ => Finset.sum_congr rfl fun h _ => ?_
  rw [samples_at f _ _ n p g q h ch ((pointY_at cy n p g q h).trans (along_at ey p g)) ((pointX_at cx n p g q h).trans (along_at ex q h)),
    bilinear_eq]

/-- One side's result at an index. -/
theorem side_at (cols : Fin 6 → Fin 68) (at' : IVec S6 32) (shares : FVec Ideal S6 .f32) (f : FVec Ideal S8x128x128x128 .f32)
    (lm : FVec Ideal S8x2x68 .f32) (ha : ∀ k : Fin 6, at' (ix1 k) = BitVec.ofNat 32 (cols k).val)
    (hs : ∀ k : Fin 6, shares (ix1 k) = Ideal.ofBits .f32 (share k)) (n : Fin 48) (ch : Fin 128) (p q : Fin 7) :
    side at' shares f lm (ix4 n ch p q)
      = crops cols (fun b ch r s => f (ix4 b ch r s)) (fun b d n => lm (ix3 b d n)) n ch p q := by
  have ex : centreX at' lm (ix1 n) = int (cell (lm (ix3 ⟨n.val / 6, by omega⟩ 0 (cols ⟨n.val % 6, by omega⟩)))) := by
    unfold centreX
    rw [settle_at, landmark_at 0#32 at' lm _ _ 0 _ rfl (ha _), clipped_eq]
  have ey : centreY at' shares lm (ix1 n) = int (cell (lm (ix3 ⟨n.val / 6, by omega⟩ 1 (cols ⟨n.val % 6, by omega⟩))
      + Crop.dist (lm (ix3 ⟨n.val / 6, by omega⟩ 0 22)) (lm (ix3 ⟨n.val / 6, by omega⟩ 0 25))
        * Ideal.ofBits .f32 (share ⟨n.val % 6, by omega⟩))) := by
    unfold centreY
    rw [settle_at, ← clipped_eq, ← hs, ← shift_at, ← landmark_at 1#32 at' lm _ _ 1 _ rfl (ha _)]
    rfl
  exact boxes_at f _ _ n ch p q ey ex

/-- One side's result as an array. -/
def answer (cols : Fin 6 → Fin 68) (f : FVec Ideal S8x128x128x128 .f32) (lm : FVec Ideal S8x2x68 .f32) : FVec Ideal S48x128x7x7 .f32 :=
  fun y => crops cols (fun b ch r s => f (ix4 b ch r s)) (fun b d n => lm (ix3 b d n)) (y 0) (y 1) (y 2) (y 3)

theorem side_eq (cols : Fin 6 → Fin 68) (at' : IVec S6 32) (shares : FVec Ideal S6 .f32) (f : FVec Ideal S8x128x128x128 .f32)
    (lm : FVec Ideal S8x2x68 .f32) (ha : ∀ k : Fin 6, at' (ix1 k) = BitVec.ofNat 32 (cols k).val)
    (hs : ∀ k : Fin 6, shares (ix1 k) = Ideal.ofBits .f32 (share k)) : side at' shares f lm = answer cols f lm := by
  funext y
  have e : y = ix4 (y 0) (y 1) (y 2) (y 3) := by
    funext a
    match a with
    | ⟨0, _⟩ => rfl
    | ⟨1, _⟩ => rfl
    | ⟨2, _⟩ => rfl
    | ⟨3, _⟩ => rfl
  rw [e]
  exact side_at cols at' shares f lm ha hs _ _ _ _

theorem left_words : ∀ k : Fin 6, lit1 (S6.rowMajor (ix1 k)) = BitVec.ofNat 32 (leftCols k).val := by decide +kernel
theorem right_words : ∀ k : Fin 6, lit3 (S6.rowMajor (ix1 k)) = BitVec.ofNat 32 (rightCols k).val := by decide +kernel
theorem left_shares : ∀ k : Fin 6, lit0 (S6.rowMajor (ix1 k)) = share k := by decide +kernel
theorem right_shares : ∀ k : Fin 6, lit2 (S6.rowMajor (ix1 k)) = share k := by decide +kernel

variable (m : (ℓ : Loc nD τ sig) → Buf (Elt Ideal) ℓ) (ρ : Dev nD → PrngReg)

/-- Every run of the reference ends with the two sides' boxes in its results and its arguments as they were. -/
theorem reference_run :
    θ_run defs (onTc (τ := τ) (main (F := Ideal))) ⟨m, fun _ => 0, ρ⟩ fun r => ∀ c : Dev nD,
      r.2.mem ((c.tc : Thread nD τ).loc main_v263)
        = answer leftCols (m ((c.tc : Thread nD τ).loc main_arg0)) (m ((c.tc : Thread nD τ).loc main_arg1))
      ∧ r.2.mem ((c.tc : Thread nD τ).loc main_v527)
        = answer rightCols (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c).1.trans (side_eq leftCols _ _ _ _ left_words fun k => congrArg (Ideal.ofBits .f32) (left_shares k)),
      (h c).2.1.trans (side_eq rightCols _ _ _ _ right_words fun k => congrArg (Ideal.ofBits .f32) (right_shares k)), (h c).2.2⟩)
    (sides_run m ρ)

end Cert.Proof.Ref

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.KernelRun
public import proofs.«01_k».proof.Proof.RefRun
public import Idealize.ShloMosaic.Lib.Quiescent

@[expose] public section

noncomputable section

namespace Cert.Proof

open Idealize.ShloMosaic Idealize.SL.Sem

/-- The kernel runs, leaves its arguments as they were, and every counter at zero. -/
theorem kernel_frame : Cert.quiescent_Kernel := fun m ρ _ => Cert.Kernel.Gen.frame m ρ

/-- So does its idealization. -/
theorem kernelIdeal_frame : Cert.quiescent_KernelIdeal := fun m ρ _ => Cert.KernelIdeal.Gen.frame m ρ

/-- So does the reference, which has no counters. -/
theorem reference_frame : Cert.quiescent_ReferenceIdeal := fun m ρ _ =>
  (θ_run Cert.ReferenceIdeal.defs _ _).mono (fun r h => ⟨fun c => (h c).2.2, sem_eq_zero_of_no_sems (by decide) r.2⟩) (Ref.reference_run m ρ)

/-- The table gives the named constant the value of a seventh, and over the extended reals the printed constant is that value. -/
theorem preserves : Cert.preserves_Kernel_KernelIdeal :=
  IdealRules.named_const.statement Cert.KernelIdeal.κ "seventh" .f32 0x3E124925#32 _ rfl

/-- On equal arguments the idealized kernel and the reference both run and end with equal results: the crops about the left
    side's landmarks and about the right side's. -/
theorem algebraic : Cert.algebraic_KernelIdeal_ReferenceIdeal := by
  intro m ρ m' ρ' _ agree
  refine ⟨_, _, Crop.kernel_run m ρ, (θ_run Cert.ReferenceIdeal.defs _ _).mono (fun r h c => ?_) (Ref.reference_run m' ρ')⟩
  obtain ⟨h0, h1, ha⟩ := h c
  obtain ⟨e0, e1⟩ := agree c
  refine ⟨h0.trans ?_, h1.trans ?_, ha⟩ <;> rw [e0, e1] <;> rfl

theorem claim : Cert.Claim := ⟨Cert.Kernel.Gen.facts, Cert.KernelIdeal.Gen.facts, Cert.ReferenceIdeal.Gen.facts,
  kernel_frame, kernelIdeal_frame, reference_frame, preserves, algebraic⟩

end Cert.Proof

end
